-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S2x1280x151936 : Shape := ⟨3, ![2, 1280, 151936]⟩
abbrev S2x10x151936 : Shape := ⟨3, ![2, 10, 151936]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S_ : Shape := ⟨0, ![]⟩

class Facts : Prop where
  bcast_S_S2x1280 : S_.BroadcastsInDim S2x1280 (![] : Fin 0 → Fin S2x1280.rank)

variable [Facts]

def fn {F : FTy → Type} [FloatOps F] (main_arg0 : FVec F S2x1280x151936 .fp8e5m2) (main_arg1 : FVec F S2x10x151936 .f32) (main_arg2 : FVec F S2x1280x896 .fp8e4m3) (main_arg3 : FVec F S2x1280 .f32) (main_arg4 : IVec S151936x896 8) (main_arg5 : FVec F S151936 .f32) (main_arg6 : IVec S2x1280 32) (main_arg7 : FVec F S2x1280x896 .bf16) : IVec S2x1280 1 :=
  let main_c : IVec S_ 32 := constantI S_ 32 0#32
  let main_v0 : IVec S2x1280 32 := broadcastInDim S2x1280 ![] bcast_S_S2x1280 main_c
  let main_v1 : IVec S2x1280 1 := cmpi .sge main_arg6 main_v0
  let main_c_0 : IVec S_ 32 := constantI S_ 32 151936#32
  let main_v2 : IVec S2x1280 32 := broadcastInDim S2x1280 ![] bcast_S_S2x1280 main_c_0
  let main_v3 : IVec S2x1280 1 := cmpi .slt main_arg6 main_v2
  let main_v4 : IVec S2x1280 1 := andi main_v1 main_v3
  main_v4
-- ==== Kernel.lean ====
abbrev S2x1280x151936 : Shape := ⟨3, ![2, 1280, 151936]⟩
abbrev S2x10x151936 : Shape := ⟨3, ![2, 10, 151936]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S2560 : Shape := ⟨1, ![2560]⟩
abbrev S2560x151936 : Shape := ⟨2, ![2560, 151936]⟩
abbrev S20x151936 : Shape := ⟨2, ![20, 151936]⟩
abbrev S2560x896 : Shape := ⟨2, ![2560, 896]⟩
abbrev S1x2560 : Shape := ⟨2, ![1, 2560]⟩
abbrev S1x151936 : Shape := ⟨2, ![1, 151936]⟩
abbrev S2560x256 : Shape := ⟨2, ![2560, 256]⟩
abbrev S20x256 : Shape := ⟨2, ![20, 256]⟩
abbrev S256x896 : Shape := ⟨2, ![256, 896]⟩
abbrev S1x256 : Shape := ⟨2, ![1, 256]⟩
abbrev S896x2560 : Shape := ⟨2, ![896, 2560]⟩
abbrev S594 : Shape := ⟨1, ![594]⟩
abbrev S896x256 : Shape := ⟨2, ![896, 256]⟩
abbrev S1 : Shape := ⟨1, ![1]⟩
abbrev S128x256 : Shape := ⟨2, ![128, 256]⟩
abbrev S1x896 : Shape := ⟨2, ![1, 896]⟩

abbrev nBuf : Space → Nat
  | .hbm => 17
  | .vmem => 18
  | .smem => 3
  | _ => 0

abbrev bufTy : (tb : Table) → Fin (tcTables nBuf tb) → BufTy
  | .hbm, ⟨0, _⟩ => ⟨S2x1280x151936, .fp8e5m2⟩
  | .hbm, ⟨1, _⟩ => ⟨S2x10x151936, .f32⟩
  | .hbm, ⟨2, _⟩ => ⟨S2x1280x896, .fp8e4m3⟩
  | .hbm, ⟨3, _⟩ => ⟨S2x1280, .f32⟩
  | .hbm, ⟨4, _⟩ => ⟨S151936x896, .i8⟩
  | .hbm, ⟨5, _⟩ => ⟨S151936, .f32⟩
  | .hbm, ⟨6, _⟩ => ⟨S2x1280, .i32⟩
  | .hbm, ⟨7, _⟩ => ⟨S2x1280x896, .bf16⟩
  | .hbm, ⟨8, _⟩ => ⟨S2560x151936, .fp8e5m2⟩
  | .hbm, ⟨9, _⟩ => ⟨S20x151936, .f32⟩
  | .hbm, ⟨10, _⟩ => ⟨S2560x896, .fp8e4m3⟩
  | .hbm, ⟨11, _⟩ => ⟨S1x2560, .f32⟩
  | .hbm, ⟨12, _⟩ => ⟨S1x151936, .f32⟩
  | .hbm, ⟨13, _⟩ => ⟨S2560x896, .bf16⟩
  | .hbm, ⟨14, _⟩ => ⟨S151936x896, .f32⟩
  | .hbm, ⟨15, _⟩ => ⟨S2560x896, .bf16⟩
  | .hbm, ⟨16, _⟩ => ⟨S2x1280x896, .bf16⟩
  | .local _ .vmem, ⟨0, _⟩ => ⟨S2560x256, .fp8e5m2⟩
  | .local _ .vmem, ⟨1, _⟩ => ⟨S2560x256, .fp8e5m2⟩
  | .local _ .vmem, ⟨2, _⟩ => ⟨S20x256, .f32⟩
  | .local _ .vmem, ⟨3, _⟩ => ⟨S20x256, .f32⟩
  | .local _ .vmem, ⟨4, _⟩ => ⟨S2560x896, .fp8e4m3⟩
  | .local _ .vmem, ⟨5, _⟩ => ⟨S1x2560, .f32⟩
  | .local _ .vmem, ⟨6, _⟩ => ⟨S256x896, .i8⟩
  | .local _ .vmem, ⟨7, _⟩ => ⟨S256x896, .i8⟩
  | .local _ .vmem, ⟨8, _⟩ => ⟨S1x256, .f32⟩
  | .local _ .vmem, ⟨9, _⟩ => ⟨S1x256, .f32⟩
  | .local _ .vmem, ⟨10, _⟩ => ⟨S2560x896, .bf16⟩
  | .local _ .vmem, ⟨11, _⟩ => ⟨S256x896, .f32⟩
  | .local _ .vmem, ⟨12, _⟩ => ⟨S256x896, .f32⟩
  | .local _ .vmem, ⟨13, _⟩ => ⟨S2560x896, .bf16⟩
  | .local _ .vmem, ⟨14, _⟩ => ⟨S896x2560, .bf16⟩
  | .local _ .vmem, ⟨15, _⟩ => ⟨S2560x256, .bf16⟩
  | .local _ .vmem, ⟨16, _⟩ => ⟨S896x2560, .f32⟩
  | .local _ .vmem, ⟨17, _⟩ => ⟨S2560x896, .f32⟩
  | .local _ .smem, ⟨0, _⟩ => ⟨S2560, .i32⟩
  | .local _ .smem, ⟨1, _⟩ => ⟨S594, .i32⟩
  | .local _ .smem, ⟨2, _⟩ => ⟨S2560, .i32⟩
  | _, _ => ⟨S2x1280x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.smem, 1, rfl⟩
abbrev cc0_scratch5 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![594], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_208 : BitVec 32 := 0#32
  let c594_i32 : BitVec 32 := 594#32
  let v506 : BitVec 32 := Scalar.addi c0_i32_208 c594_i32
  let c1_i32 : BitVec 32 := 1#32
  ⟨c0_i32_208, v506, c1_i32⟩
def k0_off1 (k0_t1 : Fin k0_t1_loop.trips) : Fin 1 → Nat :=
  let c0_i32_214 : BitVec 32 := 0#32
  let c0_i32_208 : BitVec 32 := 0#32
  let c1_i32 : BitVec 32 := 1#32
  let arg17 : BitVec 32 := Scf.iv c0_i32_208 c1_i32 k0_t1
  let c1_i32_213 : BitVec 32 := 1#32
  let v508 : BitVec 32 := Scalar.muli arg17 c1_i32_213
  let v509 : BitVec 32 := Scalar.addi c0_i32_214 v508
  let v510 : Index := Scalar.indexCast v509
  ![v510.toNat]
@[reducible] def k0_t2_loop : Scf.Loop 32 :=
  let c0_i32_210 : BitVec 32 := 0#32
  let c2560_i32 : BitVec 32 := 2560#32
  let v507 : BitVec 32 := Scalar.addi c0_i32_210 c2560_i32
  let c1_i32_211 : BitVec 32 := 1#32
  ⟨c0_i32_210, v507, c1_i32_211⟩
def k0_off2 (k0_t2 : Fin k0_t2_loop.trips) : Fin 1 → Nat :=
  let c0_i32_214 : BitVec 32 := 0#32
  let c0_i32_210 : BitVec 32 := 0#32
  let c1_i32_211 : BitVec 32 := 1#32
  let arg17 : BitVec 32 := Scf.iv c0_i32_210 c1_i32_211 k0_t2
  let c1_i32_213 : BitVec 32 := 1#32
  let v508 : BitVec 32 := Scalar.muli arg17 c1_i32_213
  let v509 : BitVec 32 := Scalar.addi c0_i32_214 v508
  let v510 : Index := Scalar.indexCast v509
  ![v510.toNat]
def k0_off3 (v511 : BitVec 32) : Fin 1 → Nat :=
  let c8_i32 : BitVec 32 := 8#32
  let v512 : BitVec 32 := Scalar.shrui v511 c8_i32
  let v513 : Index := Scalar.indexCast v512
  ![v513.toNat]

def k0_chk1 (i : grid0.Coords) (v511 : BitVec 32) : Prop :=
  (∀ (k0_h1 : k0_cond1 i = 1#1), ∀ a, (k0_off3 v511) a + S1.size a ≤ S594.size a)
theorem k0_off3_inb : ∀ (i : grid0.Coords) (v511 : BitVec 32) (k0_hw1 : k0_chk1 i v511), ∀ (k0_h1 : k0_cond1 i = 1#1), ∀ a, (k0_off3 v511) a + S1.size a ≤ S594.size a := fun i v511 k0_hw1 k0_h1 => k0_hw1 k0_h1

def k0_off4 (k0_t2 : Fin k0_t2_loop.trips) : Fin 1 → Nat :=
  let c0_i32_214 : BitVec 32 := 0#32
  let c0_i32_210 : BitVec 32 := 0#32
  let c1_i32_211 : BitVec 32 := 1#32
  let arg17 : BitVec 32 := Scf.iv c0_i32_210 c1_i32_211 k0_t2
  let c1_i32_213 : BitVec 32 := 1#32
  let v508 : BitVec 32 := Scalar.muli arg17 c1_i32_213
  let v509 : BitVec 32 := Scalar.addi c0_i32_214 v508
  let v515 : Index := Scalar.indexCast v509
  ![v515.toNat]
def k0_off5 (i : grid0.Coords) : Fin 1 → Nat :=
  let arg0 : BitVec 32 := BitVec.ofNat 32 (i 0).val
  let v370 : Index := Scalar.indexCast arg0
  ![v370.toNat]
def k0_off6 (arg17 : BitVec 32) : Fin 1 → Nat :=
  let v376 : Index := Scalar.indexCast arg17
  ![v376.toNat]

def k0_off7 (i : grid0.Coords) (v377 : BitVec 32) : Fin 2 → Nat :=
  let arg0 : BitVec 32 := BitVec.ofNat 32 (i 0).val
  let c256_i32_141 : BitVec 32 := 256#32
  let v378 : BitVec 32 := Scalar.muli arg0 c256_i32_141
  let v379 : BitVec 32 := Scalar.subi v377 v378
  let v380 : Index := Scalar.indexCast v379
  let c0_142 : Index := 0#32
  ![v380.toNat, 0]

def k0_chk3 (i : grid0.Coords) (v377 : BitVec 32) : Prop :=
  (∀ a, (k0_off7 i v377) a + S1x896.size a ≤ S256x896.size a)
theorem k0_off7_inb : ∀ (i : grid0.Coords) (v377 : BitVec 32) (k0_hw3 : k0_chk3 i v377), ∀ a, (k0_off7 i v377) a + S1x896.size a ≤ S256x896.size a := fun i v377 k0_hw3 => k0_hw3

def k0_off8 (arg17 : BitVec 32) : Fin 2 → Nat :=
  let v383 : Index := Scalar.indexCast arg17
  let c0_143 : Index := 0#32
  ![v383.toNat, 0]
def k0_off9 (arg17 : BitVec 32) : Fin 1 → Nat :=
  let v388 : Index := Scalar.indexCast arg17
  ![v388.toNat]

def k0_chk2 (arg17 : BitVec 32) : Prop :=
  (∀ a, (k0_off6 arg17) a + S1.size a ≤ S2560.size a) ∧
  (∀ a, (k0_off8 arg17) a + S1x896.size a ≤ S2560x896.size a) ∧
  (∀ a, (k0_off9 arg17) a + S1.size a ≤ S2560.size a)
theorem k0_off6_inb : ∀ (arg17 : BitVec 32) (k0_hw2 : k0_chk2 arg17), ∀ a, (k0_off6 arg17) a + S1.size a ≤ S2560.size a := fun arg17 k0_hw2 => k0_hw2.1
theorem k0_off8_inb : ∀ (arg17 : BitVec 32) (k0_hw2 : k0_chk2 arg17), ∀ a, (k0_off8 arg17) a + S1x896.size a ≤ S2560x896.size a := fun arg17 k0_hw2 => k0_hw2.2.1
theorem k0_off9_inb : ∀ (arg17 : BitVec 32) (k0_hw2 : k0_chk2 arg17), ∀ a, (k0_off9 arg17) a + S1.size a ≤ S2560.size a := fun arg17 k0_hw2 => k0_hw2.2.2

def k0_cond2 (i : grid0.Coords) : BitVec 1 :=
  let arg0 : BitVec 32 := BitVec.ofNat 32 (i 0).val
  let c593_i32 : BitVec 32 := 593#32
  let v373 : BitVec 1 := Scalar.cmpi .eq arg0 c593_i32
  let v374 : BitVec 32 := Scalar.extui v373
  let c0_i32_140 : BitVec 32 := 0#32
  let v375 : BitVec 1 := Scalar.cmpi .ne v374 c0_i32_140
  v375

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2560x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x896 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x896 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2560x896 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S2x1280x151936 : Shape := ⟨3, ![2, 1280, 151936]⟩
abbrev S2x10x151936 : Shape := ⟨3, ![2, 10, 151936]⟩
abbrev S2x1280x896 : Shape := ⟨3, ![2, 1280, 896]⟩
abbrev S2x1280 : Shape := ⟨2, ![2, 1280]⟩
abbrev S151936x896 : Shape := ⟨2, ![151936, 896]⟩
abbrev S151936 : Shape := ⟨1, ![151936]⟩
abbrev S2x10x128x151936 : Shape := ⟨4, ![2, 10, 128, 151936]⟩
abbrev S2x10x1x151936 : Shape := ⟨4, ![2, 10, 1, 151936]⟩
abbrev S2x1280x1 : Shape := ⟨3, ![2, 1280, 1]⟩
abbrev S2560 : Shape := ⟨1, ![2560]⟩
abbrev S2560x896 : Shape := ⟨2, ![2560, 896]⟩
abbrev S_ : Shape := ⟨0, ![]⟩
abbrev S2560x1 : Shape := ⟨2, ![2560, 1]⟩
abbrev S151936x1 : Shape := ⟨2, ![151936, 1]⟩

abbrev nBuf : Space → Nat
  | .hbm => 40
  | .vmem => 6
  | .smem => 0
  | _ => 0

abbrev bufTy : (tb : Table) → Fin (tcTables nBuf tb) → BufTy
  | .hbm, ⟨0, _⟩ => ⟨S2x1280x151936, .fp8e5m2⟩
  | .hbm, ⟨1, _⟩ => ⟨S2x10x151936, .f32⟩
  | .hbm, ⟨2, _⟩ => ⟨S2x1280x896, .fp8e4m3⟩
  | .hbm, ⟨3, _⟩ => ⟨S2x1280, .f32⟩
  | .hbm, ⟨4, _⟩ => ⟨S151936x896, .i8⟩
  | .hbm, ⟨5, _⟩ => ⟨S151936, .f32⟩
  | .hbm, ⟨6, _⟩ => ⟨S2x1280, .i32⟩
  | .hbm, ⟨7, _⟩ => ⟨S2x1280x896, .bf16⟩
  | .hbm, ⟨8, _⟩ => ⟨S2x1280x151936, .bf16⟩
  | .hbm, ⟨9, _⟩ => ⟨S2x1280x896, .bf16⟩
  | .hbm, ⟨10, _⟩ => ⟨S151936x896, .bf16⟩
  | .hbm, ⟨11, _⟩ => ⟨S2x10x128x151936, .bf16⟩
  | .hbm, ⟨12, _⟩ => ⟨S2x10x151936, .bf16⟩
  | .hbm, ⟨13, _⟩ => ⟨S2x10x1x151936, .bf16⟩
  | .hbm, ⟨14, _⟩ => ⟨S2x10x128x151936, .bf16⟩
  | .hbm, ⟨15, _⟩ => ⟨S2x10x128x151936, .bf16⟩
  | .hbm, ⟨16, _⟩ => ⟨S2x1280x151936, .bf16⟩
  | .hbm, ⟨17, _⟩ => ⟨S2x1280, .bf16⟩
  | .hbm, ⟨18, _⟩ => ⟨S2x1280x1, .bf16⟩
  | .hbm, ⟨19, _⟩ => ⟨S2x1280x896, .bf16⟩
  | .hbm, ⟨20, _⟩ => ⟨S2x1280x896, .bf16⟩
  | .hbm, ⟨21, _⟩ => ⟨S151936x896, .f32⟩
  | .hbm, ⟨22, _⟩ => ⟨S2560, .i32⟩
  | .hbm, ⟨23, _⟩ => ⟨S2560x896, .bf16⟩
  | .hbm, ⟨24, _⟩ => ⟨S2560x896, .f32⟩
  | .hbm, ⟨25, _⟩ => ⟨S_, .i32⟩
  | .hbm, ⟨26, _⟩ => ⟨S2560, .i32⟩
  | .hbm, ⟨27, _⟩ => ⟨S2560, .i1⟩
  | .hbm, ⟨28, _⟩ => ⟨S_, .i32⟩
  | .hbm, ⟨29, _⟩ => ⟨S2560, .i32⟩
  | .hbm, ⟨30, _⟩ => ⟨S2560, .i32⟩
  | .hbm, ⟨31, _⟩ => ⟨S2560, .i32⟩
  | .hbm, ⟨32, _⟩ => ⟨S2560x1, .i32⟩
  | .hbm, ⟨33, _⟩ => ⟨S151936x896, .f32⟩
  | .hbm, ⟨34, _⟩ => ⟨S151936, .bf16⟩
  | .hbm, ⟨35, _⟩ => ⟨S151936x1, .bf16⟩
  | .hbm, ⟨36, _⟩ => ⟨S151936x896, .bf16⟩
  | .hbm, ⟨37, _⟩ => ⟨S151936x896, .bf16⟩
  | .hbm, ⟨38, _⟩ => ⟨S2x1280x896, .f32⟩
  | .hbm, ⟨39, _⟩ => ⟨S2x1280x896, .bf16⟩
  | .local _ .vmem, ⟨0, _⟩ => ⟨S2x1280x151936, .fp8e5m2⟩
  | .local _ .vmem, ⟨1, _⟩ => ⟨S2x1280x896, .fp8e4m3⟩
  | .local _ .vmem, ⟨2, _⟩ => ⟨S151936x896, .i8⟩
  | .local _ .vmem, ⟨3, _⟩ => ⟨S2x1280x151936, .bf16⟩
  | .local _ .vmem, ⟨4, _⟩ => ⟨S2x1280x896, .bf16⟩
  | .local _ .vmem, ⟨5, _⟩ => ⟨S151936x896, .bf16⟩
  | _, _ => ⟨S2x1280x151936, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x1280x151936 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1280x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x896 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1280x151936 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1280x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S151936x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Ids.lean ====
/-
  What the precondition says: every token id names a row of the embedding table.
-/
module

public import proofs.«01_k».proof.Pre_ids_in_vocab
public import proofs.«01_k».proof.Proof.Gen.Pre_ids_in_vocab

@[expose] public section

noncomputable section

namespace Cert.Proof

open Idealize.ShloMosaic

/-- A word that is at least zero and below the vocabulary's size, both signed, is below it as a natural number. -/
theorem word_in_vocab (w : BitVec 32) (h0 : (0#32).sle w = true) (h1 : w.slt 151936#32 = true) : w.toNat < 151936 := by
  rw [BitVec.sle_eq_decide, decide_eq_true_eq] at h0
  rw [BitVec.slt_eq_decide, decide_eq_true_eq] at h1
  have e0 : (0#32).toInt = 0 := by decide
  have e1 : (151936#32).toInt = 151936 := by decide
  rw [e0] at h0; rw [e1] at h1
  rw [BitVec.toInt_eq_toNat_cond] at h0 h1
  have := w.isLt
  split at h0 <;> split at h1 <;> omega

/-- The precondition, id by id. -/
theorem ids_in_vocab {F : FTy → Type} [FloatOps F] [Cert.Pre_ids_in_vocab.Facts] {a0 a1 a2 a3 a4 a5 a7} {x : IVec Cert.Pre_ids_in_vocab.S2x1280 32}
    (h : Cert.Pre_ids_in_vocab.fn (F := F) a0 a1 a2 a3 a4 a5 x a7 = fun _ => 1#1) (j) : (x j).toNat < 151936 := by
  have := congrFun h j
  unfold Cert.Pre_ids_in_vocab.fn at this
  simp only [andi, cmpi, broadcastInDim, constantI, IntOp.cmpi] at this
  have h2 : ∀ a b : Bool, BitVec.ofBool a &&& BitVec.ofBool b = 1#1 → a = true ∧ b = true := by decide
  obtain ⟨h0, h1⟩ := h2 _ _ this
  exact word_in_vocab _ h0 h1

end Cert.Proof

end
-- ==== Proof.Own.lean ====
/-
  Loads and stores of a memref held by what is read through it (`owns`): a load hands the elements under its rectangle, a
  store of a whole rectangle replaces them (`put`). Stated over any signature, used by the kernel's parts.
-/
module

public import Idealize.ShloMosaic.Lib.Memref
public import Idealize.ShloMosaic.Lib.Writes
public import Idealize.ShloMosaic.Lib.Tactic

@[expose] public section

noncomputable section

namespace Cert.Proof.Own

open Idealize.ShloMosaic
open Idealize.SL Idealize.SL.RA Idealize.SL.BI
open scoped Idealize.SL.BI
open Idealize.SL.BI.BIBase Idealize.SL.BI.Laws Idealize.SL.ProofMode Idealize.SL.Sem

/-- The index of row `a` and column `b`. -/
def ix {m n : ℕ} (a : Fin m) (b : Fin n) : (⟨2, ![m, n]⟩ : Shape).Idx := fun
  | 0 => a
  | 1 => b

/-- An index of two axes is its row and its column. -/
theorem ix_eq {m n : ℕ} (y : (⟨2, ![m, n]⟩ : Shape).Idx) (a : Fin m) (b : Fin n) (h0 : (y 0).val = a.val) (h1 : (y 1).val = b.val) :
    y = ix a b := funext fun
  | 0 => Fin.ext h0
  | 1 => Fin.ext h1

/-- The index `a` of one axis. -/
def ix1 {m : ℕ} (a : Fin m) : (⟨1, ![m]⟩ : Shape).Idx := fun | 0 => a

theorem ix1_eq {m : ℕ} (y : (⟨1, ![m]⟩ : Shape).Idx) (a : Fin m) (h0 : (y 0).val = a.val) : y = ix1 a := funext fun | 0 => Fin.ext h0

section Put

variable {s : Shape} {α : Type}

open Classical in
/-- `X` with the elements of the rectangle `r` replaced by `w`. -/
def put (r : Rect s) (X : s.Idx → α) (w : r.shape.Idx → α) : s.Idx → α := fun y =>
  if h : ∃ x, r.emb x = y then w h.choose else X y

theorem put_emb (r : Rect s) (X : s.Idx → α) (w : r.shape.Idx → α) (x : r.shape.Idx) : put r X w (r.emb x) = w x := by
  have h : ∃ x', r.emb x' = r.emb x := ⟨x, rfl⟩
  unfold put
  rw [dif_pos h]
  exact congrArg w (r.emb.injective h.choose_spec)

theorem put_of_not_mem (r : Rect s) (X : s.Idx → α) (w : r.shape.Idx → α) {y : s.Idx} (h : y ∉ r.set) : put r X w y = X y := by
  unfold put
  rw [dif_neg]
  rintro ⟨x, rfl⟩
  exact h (by rw [← Rect.map_emb_univ]; exact Finset.mem_map_of_mem _ (Finset.mem_univ x))

theorem exists_emb (r : Rect s) {y : s.Idx} (h : y ∈ r.set) : ∃ x, r.emb x = y := r.exists_idx_of_mem h

/-- A store of the whole shape leaves what it stores. -/
theorem put_full {off : Fin s.rank → ℕ} (inb : ∀ a, off a + s.size a ≤ s.size a) (X : s.Idx → α)
    (w : (Rect.unit off s.size inb).shape.Idx → α) : put (Rect.unit off s.size inb) X w = w := by
  funext y
  have hy : (Rect.unit off s.size inb).emb y = y := funext fun a => Fin.ext (by
    show off a + 1 * (y a).val = (y a).val
    have := inb a
    omega)
  have h := put_emb (Rect.unit off s.size inb) X w y
  rwa [hy] at h

/-- What a load of the whole shape reads. -/
theorem emb_full {off : Fin s.rank → ℕ} (inb : ∀ a, off a + s.size a ≤ s.size a) (X : s.Idx → α) :
    (fun x => X ((Rect.unit off s.size inb).emb x)) = X := by
  funext y
  exact congrArg X (funext fun a => Fin.ext (by
    show off a + 1 * (y a).val = (y a).val
    have := inb a
    omega))

/-- A store of one word. -/
theorem put_one {m : ℕ} {α : Type} {off : Fin 1 → ℕ} (inb : ∀ a, off a + (⟨1, ![1]⟩ : Shape).size a ≤ (⟨1, ![m]⟩ : Shape).size a)
    (X : (⟨1, ![m]⟩ : Shape).Idx → α) (w : α) (y : (⟨1, ![m]⟩ : Shape).Idx) :
    put (Rect.unit (s := ⟨1, ![m]⟩) off (⟨1, ![1]⟩ : Shape).size inb) X (fun _ => w) y = if (y 0).val = off 0 then w else X y := by
  by_cases h : (y 0).val = off 0
  · rw [if_pos h]
    have hy : (Rect.unit (s := ⟨1, ![m]⟩) off (⟨1, ![1]⟩ : Shape).size inb).emb (ix1 (m := 1) 0) = y := by
      refine funext fun a => Fin.ext ?_
      fin_cases a
      show off 0 + 1 * 0 = (y 0).val
      omega
    rw [← hy]
    exact put_emb _ X (fun _ => w) _
  · rw [if_neg h]
    refine put_of_not_mem _ _ _ fun hm => h ?_
    have := Rect.mem_set_unit.1 hm 0
    change off 0 ≤ (y 0).val ∧ (y 0).val < off 0 + 1 at this
    omega

/-- A load of one word. -/
theorem get_one {m : ℕ} {α : Type} {off : Fin 1 → ℕ} (inb : ∀ a, off a + (⟨1, ![1]⟩ : Shape).size a ≤ (⟨1, ![m]⟩ : Shape).size a)
    (X : (⟨1, ![m]⟩ : Shape).Idx → α) (x : (⟨1, ![1]⟩ : Shape).Idx) (n : Fin m) (hn : off 0 = n.val) :
    X ((Rect.unit (s := ⟨1, ![m]⟩) off (⟨1, ![1]⟩ : Shape).size inb).emb x) = X (ix1 n) := by
  refine congrArg X (ix1_eq _ _ ?_)
  have := (x 0).isLt
  change (x 0).val < 1 at this
  show off 0 + 1 * (x 0).val = n.val
  omega

end Put

variable {nD : Nat} {τ : Topo} {sig : RefSig} {Ix : Type} [DecidableEq Ix]
variable {Val : EltTy → Type} {Name : Type} [DecidableEq Name]
variable {U : Type} [URA U]
variable {Lvl : Type} [Preorder Lvl] {Λ : Labels}
local notation "𝕄" => MT nD τ sig Ix Val Name U Lvl

variable {defs : Defs nD τ sig Val Λ} (𝒱 : Variants) (c : Thread nD τ) (bd : Option 𝒱.V) (E : Set Name)

/-- A load: the elements of the rectangle, the memref held as before. -/
theorem load {α : Type} {Q : α → sProp 𝕄} {cs : CoreSpace} {s : Shape} {e : EltTy} {m : Memref sig c.2.kind cs s e} {r : Rect s} {hl : m.view.LoadsAt r}
    {k : (r.shape.Idx → Val e) → Prog (TpuEff nD τ sig Val Λ c.2) α} {q : PosShare TreeShare} {X : s.Idx → Val e} :
    (owns c m q X : sProp 𝕄)
      ⊢ iprop(((owns c m q X) -∗ wp frame (wpE defs 𝒱 c bd) E (k fun x => X (r.emb x)) Q)
        -∗ wp frame (wpE defs 𝒱 c bd) E (.op (.load m r hl) k) Q) := by
  unfold owns
  iintro ⟨%f, %hf, H⟩ Hk
  iapply (wp_load_rect 𝒱 c bd E (m := m) (r := r) (m.view.set_slice_subset r)) $$ H
  iintro H
  have hr : (m.access r).read Val f = fun x => X (r.emb x) := by
    funext x; rw [← hf]; rfl
  rw [hr]
  iapply Hk
  iexists f
  isplitr
  · ipureintro; exact hf
  · iexact H

/-- A store of a whole rectangle. -/
theorem store {α : Type} {Q : α → sProp 𝕄} {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    (owns c m fullShare X : sProp 𝕄)
      ⊢ iprop(((owns c m fullShare (put r X w)) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (hx := hx) (hm := hm) (m.view.set_slice_subset r)) $$ H
  iintro H
  iapply Hk
  iexists _
  isplitr
  swap
  · iexact H
  · ipureintro
    funext y
    by_cases hy : y ∈ r.set
    · obtain ⟨x, rfl⟩ : ∃ x, r.emb x = y := r.exists_idx_of_mem hy
      rw [put_emb]
      exact View.read_slice_write_emb r f w (Finset.mem_univ x)
    · rw [put_of_not_mem r X w hy, ← hf]
      exact View.read_slice_write_of_not_mem r f w Finset.univ (by rwa [Rect.map_emb_univ])

/-- What is held, under another name of what it reads. -/
theorem recast {cs : CoreSpace} {s : Shape} {e : EltTy} {m : Memref sig c.2.kind cs s e} {q : PosShare TreeShare} {X Y : s.Idx → Val e} (h : X = Y) :
    (owns c m q X : sProp 𝕄) ⊢ owns c m q Y := by rw [h]

/-- What is held, under another name, on the way to a goal. -/
theorem rename {cs : CoreSpace} {s : Shape} {e : EltTy} {m : Memref sig c.2.kind cs s e} {q : PosShare TreeShare} {X Y : s.Idx → Val e} (h : X = Y)
    (P : sProp 𝕄) : iprop((owns c m q X) ∗ ((owns c m q Y) -∗ P)) ⊢ P := by
  subst h
  iintro ⟨H, Hk⟩
  iapply Hk
  iexact H

/-- A load of one word of scalar memory. -/
theorem loadWord {α : Type} {Q : α → sProp 𝕄} {M : ℕ} {e : EltTy} {m : Memref sig c.2.kind .smem ⟨1, ![M]⟩ e} {off : Fin 1 → ℕ}
    {inb : ∀ a, off a + (⟨1, ![1]⟩ : Shape).size a ≤ (⟨1, ![M]⟩ : Shape).size a}
    {h1 : (Rect.unit (s := ⟨1, ![M]⟩) off (⟨1, ![1]⟩ : Shape).size inb).shape.numel = 1} {hp : e.packing = 1}
    {k : Val e → Prog (TpuEff nD τ sig Val Λ c.2) α} {q : PosShare TreeShare} {X : (⟨1, ![M]⟩ : Shape).Idx → Val e}
    (n : Fin M) (hn : off 0 = n.val) :
    (owns c m q X : sProp 𝕄)
      ⊢ iprop(((owns c m q X) -∗ wp frame (wpE defs 𝒱 c bd) E (k (X (ix1 n))) Q)
        -∗ wp frame (wpE defs 𝒱 c bd) E (smemLoad m (Rect.unit (s := ⟨1, ![M]⟩) off (⟨1, ![1]⟩ : Shape).size inb) h1 hp >>= k) Q) := by
  simp only [smemLoad, smemLoadElt, Prog.bind_op, Prog.bind_ret]
  rw [← get_one inb X (Shape.Idx.first (h1.symm ▸ Nat.one_pos)) n hn]
  exact load (Lvl := Lvl) (Ix := Ix) (Name := Name) (U := U) (defs := defs) 𝒱 c bd E (m := m) (q := q) (X := X) (Q := Q)
    (r := Rect.unit (s := ⟨1, ![M]⟩) off (⟨1, ![1]⟩ : Shape).size inb) (k := fun f => k (f (Shape.Idx.first (h1.symm ▸ Nat.one_pos))))

end Cert.Proof.Own

end
-- ==== Proof.Chain.lean ====
/-
  The linked lists of tokens. Token `n` is in the list of tile `T n`. After `n` tokens the list of tile `v` begins at the
  last of them that is of tile `v` (`last T n v`), kept as a word (`enc`), minus one for an empty list; the token after
  `n` in its list is `last T n (T n)`.
-/
module

public import Mathlib.Data.BitVec
public import Idealize.ShloMosaic.PureOps

@[expose] public section

namespace Cert.Proof.Chain

/-- The last token before `n` that is of tile `v`. -/
def last (T : ℕ → ℕ) : ℕ → ℕ → Option ℕ
  | 0, _ => none
  | n + 1, v => if T n = v then some n else last T n v

theorem last_zero (T : ℕ → ℕ) (v : ℕ) : last T 0 v = none := rfl
theorem last_self {T : ℕ → ℕ} {n v : ℕ} (h : T n = v) : last T (n + 1) v = some n := if_pos h
theorem last_other {T : ℕ → ℕ} {n v : ℕ} (h : T n ≠ v) : last T (n + 1) v = last T n v := if_neg h

/-- A token or none, as the word the lists keep. -/
def enc : Option ℕ → BitVec 32
  | none => 4294967295#32
  | some n => BitVec.ofNat 32 n

open Idealize.ShloMosaic in
/-- The word of a token passes the loop's test. -/
theorem sge_some {n : ℕ} (h : n < 2560) : Scalar.cmpi .sge (enc (some n)) 0#32 = 1#1 := by
  have h1 : (0#32 : BitVec 32).sle (BitVec.ofNat 32 n) = true := by
    rw [BitVec.sle_eq_decide, decide_eq_true_eq]
    rw [BitVec.toInt_eq_toNat_of_lt (x := BitVec.ofNat 32 n) (by rw [BitVec.toNat_ofNat]; omega)]
    simp; omega
  show BitVec.ofBool _ = 1#1
  simp only [enc]
  first | rw [h1]; rfl | simp [h1]

open Idealize.ShloMosaic in
/-- The word of none fails it. -/
theorem sge_none : ¬Scalar.cmpi .sge (enc none) 0#32 = 1#1 := by decide

/-- Going down the list of tile `v` from token `n`: `step` at each token of the tile below `n`, the last one first. -/
def walk {β : Type} (T : ℕ → ℕ) (v : ℕ) (step : ℕ → β → β) : ℕ → β → β
  | 0, x => x
  | n + 1, x => walk T v step n (if T n = v then step n x else x)

theorem walk_zero {β : Type} (T : ℕ → ℕ) (v : ℕ) (step : ℕ → β → β) (x : β) : walk T v step 0 x = x := rfl
theorem walk_self {β : Type} {T : ℕ → ℕ} {n v : ℕ} (h : T n = v) (step : ℕ → β → β) (x : β) :
    walk T v step (n + 1) x = walk T v step n (step n x) := by simp [walk, h]
theorem walk_other {β : Type} {T : ℕ → ℕ} {n v : ℕ} (h : T n ≠ v) (step : ℕ → β → β) (x : β) :
    walk T v step (n + 1) x = walk T v step n x := by simp [walk, h]

end Cert.Proof.Chain
-- ==== Proof.P.Sem.lean ====
/-
  What one grid step computes, as whole-shape functions of the blocks it reads: the decoded hidden states (`HT`), the
  decoded and masked block of logit gradients (`DL`), the tile of token gradients added to the tile's product (`tileOf`),
  the words of the token lists.
-/
module

public import proofs.«01_k».proof.Proof.Gen.Kernel.Skeleton
public import proofs.«01_k».proof.Proof.Own
public import proofs.«01_k».proof.Proof.Chain
public import Idealize.ShloMosaic.Lib.Pipeline.Value

@[expose] public section

noncomputable section

namespace Cert.Proof.P

open Cert.Kernel Cert.Kernel.Gen
open Idealize.ShloMosaic Idealize.ShloMosaic.TcCoe
open Cert.Proof.Own Cert.Proof.Chain

variable {F : FTy → Type} [FloatOps F]

/-- The decoded hidden states, transposed. -/
def HT (X4 : Vec F S2560x896 .fp8e4m3) (X5 : Vec F S1x2560 .f32) : Vec F S896x2560 .bf16 := fun y =>
  FloatOps.mulf (FloatOps.extf .bf16 (by decide) (X4 (ix (y 1) (y 0)))) (FloatOps.truncf .bf16 (by decide) (X5 (ix 0 (y 1))))

/-- One decoded logit gradient: code times scale, both zero where the mask is off. -/
def dlEl (b : BitVec 1) (code : F .fp8e5m2) (s : F .f32) : F .bf16 :=
  FloatOps.mulf (FloatOps.extf .bf16 (by decide) (Scalar.select b code (Scalar.ofBits .fp8e5m2 0x00#8)))
    (FloatOps.truncf .bf16 (by decide) (Scalar.select b s (Scalar.ofBits .f32 0x00000000#32)))

/-- The decoded block of logit gradients under the mask `v7` of the columns inside the vocabulary. -/
def DL (v7 : IVec S1x256 1) (X2 : Vec F S2560x256 .fp8e5m2) (X3 : Vec F S20x256 .f32) : Vec F S2560x256 .bf16 := fun y =>
  dlEl (v7 (ix 0 (y 1))) (X2 y) (X3 (ix ⟨(y 0).val / 128, Nat.div_lt_of_lt_mul (y 0).isLt⟩ (y 1)))

/-- The gradient of the hidden states, transposed back and rounded. -/
def DH (X13 : Vec F S896x2560 .f32) : Vec F S2560x896 .bf16 := fun y =>
  FloatOps.truncf .bf16 (by decide) (X13 (ix (y 1) (y 0)))

/-- The tile of token `n`. -/
def tileNo (tbl : Vec F S2560 .i32) (n : ℕ) : ℕ :=
  if h : n < 2560 then BitVec.toNat (tbl (ix1 ⟨n, h⟩) : BitVec 32) / 256 else 0

/-- Adding token `n`'s row to its row of the tile. -/
def addRow (tbl : Vec F S2560 .i32) (X14 : Vec F S2560x896 .f32) (n : ℕ) (X : Vec F S256x896 .f32) : Vec F S256x896 .f32 := fun y =>
  if h : n < 2560 then
    if (y 0).val = BitVec.toNat (tbl (ix1 ⟨n, h⟩) : BitVec 32) % 256 then FloatOps.addf (X y) (X14 (ix ⟨n, h⟩ (y 1))) else X y
  else X y

/-- The tile `v` of the embedding's gradient: the product and, added to it, the rows of the tile's tokens. -/
def tileOf (tbl : Vec F S2560 .i32) (X14 : Vec F S2560x896 .f32) (v : ℕ) (X : Vec F S256x896 .f32) : Vec F S256x896 .f32 :=
  walk (tileNo tbl) v (addRow tbl X14) 2560 X

/-- The lists' heads after `n` tokens. -/
def headAt (tbl : Vec F S2560 .i32) (n : ℕ) : Vec F S594 .i32 := fun y => enc (last (tileNo tbl) n (y 0).val)

/-- The tokens' successors in their lists. -/
def nextOf (tbl : Vec F S2560 .i32) : Vec F S2560 .i32 := fun y => enc (last (tileNo tbl) (y 0).val (tileNo tbl (y 0).val))

/-- Agreement on the columns below `n`. -/
def EqCols {α : Type} (n : ℕ) (X G : S896x2560.Idx → α) : Prop := ∀ y, (y 1).val < n → X y = G y
/-- Agreement on the rows below `n`, of a block of 256 columns. -/
def EqRows {α : Type} (n : ℕ) (X G : S2560x256.Idx → α) : Prop := ∀ y, (y 0).val < n → X y = G y
/-- Agreement on the rows below `n`, of a block of 896 columns. -/
def EqRows' {α : Type} (n : ℕ) (X G : S2560x896.Idx → α) : Prop := ∀ y, (y 0).val < n → X y = G y

/-- A chunk of 256 columns of the hidden states, stored: the agreement reaches 256 columns further. -/
theorem ht_step {X4 : Vec F S2560x896 .fp8e4m3} {X5 : Vec F S1x2560 .f32} {X11 : Vec F S896x2560 .bf16} (o : ℕ)
    {i1 i2 i3} {w : Vec F S896x256 .bf16}
    (hw : w = k0_pay7 (fun x => X4 ((Rect.unit (s := S2560x896) ![o, 0] S256x896.size i1).emb x))
      (fun x => X5 ((Rect.unit (s := S1x2560) ![0, o] S1x256.size i2).emb x)))
    (h : EqCols o X11 (HT X4 X5)) :
    EqCols (o + 256) (put (Rect.unit (s := S896x2560) ![0, o] S896x256.size i3) X11 w) (HT X4 X5) := by
  intro y hy
  by_cases hm : y ∈ (Rect.unit (s := S896x2560) ![0, o] S896x256.size i3).set
  · obtain ⟨x, rfl⟩ := exists_emb _ hm
    erw [put_emb]
    subst hw
    unfold k0_pay7 HT
    simp only [Idealize.ShloMosaic.shapeCast_self]
    show FloatOps.mulf (FloatOps.extf _ _ (X4 _)) (FloatOps.truncf _ _ (X5 _)) = _
    congr 2
    · refine congrArg X4 (funext fun a => Fin.ext ?_)
      fin_cases a
      · rfl
      · rfl
    · refine congrArg X5 (funext fun a => Fin.ext ?_)
      fin_cases a
      · rfl
      · rfl
  · rw [put_of_not_mem _ _ _ hm]
    refine h y ?_
    by_contra hlt
    refine hm (Rect.mem_set_unit.2 fun a => ?_)
    fin_cases a
    · exact ⟨Nat.zero_le _, by simpa using (y 0).isLt⟩
    · exact ⟨by simpa using hlt, by simpa using hy⟩

/-- A run of 128 rows of logit gradients, stored: the agreement reaches 128 rows further. -/
theorem dl_step {v7 : IVec S1x256 1} {X2 : Vec F S2560x256 .fp8e5m2} {X3 : Vec F S20x256 .f32} {X12 : Vec F S2560x256 .bf16} (k o : ℕ)
    (ho : o = 128 * k) {i1 i2 i3} {w : Vec F S128x256 .bf16}
    (hw : w = k0_pay32 v7 (fun x => X2 ((Rect.unit (s := S2560x256) ![o, 0] S128x256.size i1).emb x))
      (fun x => X3 ((Rect.unit (s := S20x256) ![k, 0] S1x256.size i2).emb x)))
    (h : EqRows o X12 (DL v7 X2 X3)) :
    EqRows (o + 128) (put (Rect.unit (s := S2560x256) ![o, 0] S128x256.size i3) X12 w) (DL v7 X2 X3) := by
  intro y hy
  by_cases hm : y ∈ (Rect.unit (s := S2560x256) ![o, 0] S128x256.size i3).set
  · obtain ⟨x, rfl⟩ := exists_emb _ hm
    erw [put_emb]
    subst hw
    unfold k0_pay32 DL dlEl
    simp only [Idealize.ShloMosaic.shapeCast_self]
    show FloatOps.mulf (FloatOps.extf _ _ (Scalar.select (v7 _) (X2 _) _)) (FloatOps.truncf _ _ (Scalar.select (v7 _) (X3 _) _)) = _
    have h7 : ∀ j : S1x256.Idx, (j 1).val = (x 1).val → v7 j = v7 (ix 0 (((Rect.unit (s := S2560x256) ![o, 0] S128x256.size i3).emb x) 1)) := fun j hj =>
      congrArg v7 (funext fun a => Fin.ext (by
        fin_cases a
        · have := (j 0).isLt
          show (j 0).val = 0
          change (j 0).val < 1 at this
          omega
        · show (j 1).val = 0 + 1 * (x 1).val; omega))
    congr 2
    · congr 1
      exact h7 _ rfl
    · congr 1
      · exact h7 _ rfl
      · refine congrArg X3 (funext fun a => Fin.ext ?_)
        fin_cases a
        · have hx : (x 0).val < 128 := (x 0).isLt
          show k + 1 * 0 = (o + 1 * (x 0).val) / 128
          omega
        · rfl
  · rw [put_of_not_mem _ _ _ hm]
    refine h y ?_
    by_contra hlt
    refine hm (Rect.mem_set_unit.2 fun a => ?_)
    fin_cases a
    · exact ⟨by simpa using hlt, by simpa using hy⟩
    · exact ⟨Nat.zero_le _, by simpa using (y 1).isLt⟩

/-- A chunk of 256 rows of the hidden states' gradient, stored: the agreement reaches 256 rows further. -/
theorem dh_step {X13 : Vec F S896x2560 .f32} {X10 : Vec F S2560x896 .bf16} (o : ℕ) {i1 i3} {w : Vec F S256x896 .bf16}
    (hw : w = k0_pay3 (fun x => X13 ((Rect.unit (s := S896x2560) ![0, o] S896x256.size i1).emb x)))
    (h : EqRows' o X10 (DH X13)) :
    EqRows' (o + 256) (put (Rect.unit (s := S2560x896) ![o, 0] S256x896.size i3) X10 w) (DH X13) := by
  intro y hy
  by_cases hm : y ∈ (Rect.unit (s := S2560x896) ![o, 0] S256x896.size i3).set
  · obtain ⟨x, rfl⟩ := exists_emb _ hm
    erw [put_emb]
    subst hw
    unfold k0_pay3 DH
    show FloatOps.truncf _ _ (X13 _) = FloatOps.truncf _ _ (X13 _)
    congr 1
    refine congrArg X13 (funext fun a => Fin.ext ?_)
    fin_cases a
    · rfl
    · rfl
  · rw [put_of_not_mem _ _ _ hm]
    refine h y ?_
    by_contra hlt
    refine hm (Rect.mem_set_unit.2 fun a => ?_)
    fin_cases a
    · exact ⟨by simpa using hlt, by simpa using hy⟩
    · exact ⟨Nat.zero_le _, by simpa using (y 1).isLt⟩

end Cert.Proof.P

end
-- ==== Proof.P.Loops.lean ====
/-
  The two counted loops of the first step: every list's head cleared, then each token put in front of its tile's list.
  The offsets and words are read off the integer operations; the ids are inside the vocabulary, so every tile is.
-/
module

public import proofs.«01_k».proof.Proof.P.Sem
public import Idealize.ShloMosaic.Lib.Scf

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

/-- The label's loop is ranked by a natural number. -/
abbrev 𝒱₀ : Variants := Variants.nat

theorem t1_trips : k0_t1_loop.trips = 594 := by decide
theorem t2_trips : k0_t2_loop.trips = 2560 := by decide

/-- The ids of a table inside the vocabulary. -/
def InVocab (tbl : Vec F S2560 .i32) : Prop := ∀ n : Fin 2560, BitVec.toNat (tbl (ix1 n) : BitVec 32) < 151936

theorem tileNo_eq (tbl : Vec F S2560 .i32) (n : Fin 2560) : tileNo tbl n.val = BitVec.toNat (tbl (ix1 n) : BitVec 32) / 256 := by
  unfold tileNo
  rw [dif_pos n.isLt]

theorem tileNo_lt {tbl : Vec F S2560 .i32} (hv : InVocab tbl) (n : Fin 2560) : tileNo tbl n.val < 594 := by
  rw [tileNo_eq]
  have := hv n
  omega

/-- A shift by eight is the tile. -/
theorem off3_eq {v : BitVec 32} : k0_off3 v = ![v.toNat / 256] := by
  unfold k0_off3
  simp only [Scalar.indexCast]
  have h : (Scalar.shrui v 8#32).toNat = v.toNat / 256 := by
    show (IntOp.shrui .scalar v 8#32).toNat = _
    unfold IntOp.shrui
    rw [if_pos (by decide)]
    show (v >>> (8 : ℕ)).toNat = _
    rw [BitVec.toNat_ushiftRight, Nat.shiftRight_eq_div_pow]
  rw [h]

theorem chk1_of (i : grid0.Coords) {v : BitVec 32} (h : v.toNat < 151936) : k0_chk1 i v := fun _ a => by
  fin_cases a
  show k0_off3 v 0 + 1 ≤ 594
  rw [off3_eq]
  show v.toNat / 256 + 1 ≤ 594
  omega

/-- The word of the second loop's counter. -/
theorem word_iv (k : ℕ) : Scalar.addi 0#32 (Scalar.muli (Scf.iv 0#32 1#32 k) 1#32) = BitVec.ofNat 32 k := by
  show 0#32 + (0#32 + BitVec.ofNat 32 k * 1#32) * 1#32 = _
  simp

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD)

/-- The heads below `k` cleared. -/
def heads0 (k : ℕ) : sProp 𝕄 :=
  iprop(∃ X, ⌜∀ y, (y 0).val < k → X y = (4294967295#32 : BitVec 32)⌝ ∗ owns (c : Thread nD τ) arg15 fullShare X)

theorem t1_trip (h1 : k0_cond1 i = 1#1) (k : Fin k0_t1_loop.trips) (acc : Unit) :
    (heads0 arg15 c k.val : sProp 𝕄)
      ⊢ wp frame (wpE (defs₀ (F := F)) 𝒱₀ (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 k acc)
          fun _ => heads0 arg15 c (k.val + 1) := by
  unfold k0_t1_body heads0
  simp only [Prog.lift, Prog.bind_op, Prog.bind_ret, Prog.pure_eq_ret]
  iintro ⟨%X, %hX, H⟩
  iapply (Own.loadWord 𝒱₀ (c : Thread nD τ) none Set.univ (m := arg15) ⟨k.val, t1_trips ▸ k.isLt⟩ (by rw [k0_off1_eq]; rfl)) $$ H; iintro H
  iapply (Own.store 𝒱₀ (c : Thread nD τ) none Set.univ (m := arg15)) $$ H; iintro H
  rw [wp_ret]; imodintro
  iexists _
  isplitr
  swap
  · iexact H
  · ipureintro
    intro y hy
    refine (put_one _ X _ y).trans ?_
    rw [k0_off1_eq]
    split_ifs with h
    · rfl
    · refine hX y ?_
      change ¬(y 0).val = k.val at h
      omega

/-- The lists after `k` tokens. -/
def listsAt (tbl : Vec F S2560 .i32) (q : PosShare TreeShare) (k : ℕ) : sProp 𝕄 :=
  iprop(owns (c : Thread nD τ) arg1 q tbl ∗ owns (c : Thread nD τ) arg15 fullShare (headAt tbl k)
    ∗ ∃ X, ⌜∀ y, (y 0).val < k → X y = nextOf tbl y⌝ ∗ owns (c : Thread nD τ) arg16 fullShare X)

theorem t2_trip {tbl : Vec F S2560 .i32} (hv : InVocab tbl) (q : PosShare TreeShare) (h1 : k0_cond1 i = 1#1) (k : Fin k0_t2_loop.trips) (acc : Unit) :
    (listsAt arg1 arg15 arg16 c tbl q k.val : sProp 𝕄)
      ⊢ wp frame (wpE (defs₀ (F := F)) 𝒱₀ (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 k acc)
          fun _ => listsAt arg1 arg15 arg16 c tbl q (k.val + 1) := by
  have hk : k.val < 2560 := t2_trips ▸ k.isLt
  unfold k0_t2_body listsAt
  simp only [Prog.lift, Prog.bind_op, Prog.bind_ret, Prog.pure_eq_ret]
  iintro ⟨H1, H15, %X, %hX, H16⟩
  have ht := tileNo_lt hv ⟨k.val, hk⟩
  have hte := tileNo_eq tbl ⟨k.val, hk⟩
  have hte' : tileNo tbl k.val = BitVec.toNat (tbl (ix1 ⟨k.val, hk⟩) : BitVec 32) / 256 := hte
  iapply (Own.loadWord 𝒱₀ (c : Thread nD τ) none Set.univ (m := arg1) ⟨k.val, hk⟩ (by rw [k0_off2_eq]; rfl)) $$ H1; iintro H1
  iapply (wp_assume 𝒱₀ (c : Thread nD τ) none Set.univ (chk1_of i (hv ⟨k.val, hk⟩)))
  iapply (Own.loadWord 𝒱₀ (c : Thread nD τ) none Set.univ (m := arg15) ⟨tileNo tbl k.val, ht⟩ (by rw [off3_eq]; exact hte.symm)) $$ H15; iintro H15
  iapply (Own.loadWord 𝒱₀ (c : Thread nD τ) none Set.univ (m := arg16) ⟨k.val, hk⟩ (by rw [k0_off4_eq]; rfl)) $$ H16; iintro H16
  iapply (Own.store 𝒱₀ (c : Thread nD τ) none Set.univ (m := arg16)) $$ H16; iintro H16
  iapply (Own.loadWord 𝒱₀ (c : Thread nD τ) none Set.univ (m := arg15) ⟨tileNo tbl k.val, ht⟩ (by rw [off3_eq]; exact hte.symm)) $$ H15; iintro H15
  iapply (Own.store 𝒱₀ (c : Thread nD τ) none Set.univ (m := arg15)) $$ H15; iintro H15
  rw [wp_ret]; imodintro
  have hh : ∀ y, put (Rect.unit (s := S594) (k0_off3 (tbl (ix1 ⟨k.val, hk⟩))) S1.size (k0_off3_inb i _ (chk1_of i (hv ⟨k.val, hk⟩)) h1)) (headAt tbl k.val)
      (fun _ => Scalar.addi 0#32 (Scalar.muli (Scf.iv 0#32 1#32 k.val) 1#32)) y = headAt tbl (k.val + 1) y := by
    intro y
    refine (put_one _ _ _ y).trans ?_
    rw [off3_eq, word_iv]
    unfold headAt
    by_cases h : tileNo tbl k.val = (y 0).val
    · rw [last_self h]; exact if_pos (h.symm.trans hte')
    · rw [last_other h]; exact if_neg fun h' => h (hte'.trans h'.symm)
  isplitl [H1]; · iexact H1
  isplitl [H15]
  · rw [← funext hh]; iexact H15
  iexists _
  isplitr
  swap
  · iexact H16
  · ipureintro
    intro y hy
    refine (put_one _ X _ y).trans ?_
    rw [k0_off4_eq]
    split_ifs with h
    · unfold headAt nextOf
      change (y 0).val = k.val at h
      rw [h]; rfl
    · refine hX y ?_
      change ¬(y 0).val = k.val at h
      omega

end Cert.Proof.P

end
-- ==== Proof.P.While.lean ====
/-
  The walk down one tile's list: the label's specification and its body's proof. From the word of the list's first token
  below `n`, the rows of the list's tokens below `n` are added to their rows of the tile, the last token first; the walk is
  ranked by `n`, since each token's successor lies below it.
-/
module

public import proofs.«01_k».proof.Proof.P.Loops
public import Idealize.ShloMosaic.Lib.Tactic

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

theorem off6_eq {n : ℕ} (h : n < 2560) : k0_off6 (BitVec.ofNat 32 n) = ![n] := by
  unfold k0_off6
  simp only [Scalar.indexCast, BitVec.toNat_ofNat]
  rw [Nat.mod_eq_of_lt (by omega)]

theorem off9_eq {n : ℕ} (h : n < 2560) : k0_off9 (BitVec.ofNat 32 n) = ![n] := off6_eq h

theorem off8_eq {n : ℕ} (h : n < 2560) : k0_off8 (BitVec.ofNat 32 n) = ![n, 0] := by
  unfold k0_off8
  simp only [Scalar.indexCast, BitVec.toNat_ofNat]
  rw [Nat.mod_eq_of_lt (by omega)]

/-- The row of an id in its own tile. -/
theorem off7_eq (i : grid0.Coords) {v : BitVec 32} (hv : v.toNat < 151936) (h : v.toNat / 256 = (i 0).val) : k0_off7 i v = ![v.toNat % 256, 0] := by
  have hi : (i 0).val < 594 := (i 0).isLt
  unfold k0_off7
  simp only [Scalar.indexCast]
  have e : (Scalar.subi v (Scalar.muli (BitVec.ofNat 32 (i 0).val) 256#32)).toNat = v.toNat % 256 := by
    show (v - BitVec.ofNat 32 (i 0).val * 256#32).toNat = _
    rw [BitVec.toNat_sub, BitVec.toNat_mul, BitVec.toNat_ofNat, BitVec.toNat_ofNat]
    rw [Nat.mod_eq_of_lt (a := (i 0).val) (by omega), Nat.mod_eq_of_lt (a := 256) (by omega), Nat.mod_eq_of_lt (a := (i 0).val * 256) (by omega)]
    omega
  rw [e]

theorem chk2_of {n : ℕ} (h : n < 2560) : k0_chk2 (BitVec.ofNat 32 n) := by
  refine ⟨fun a => ?_, fun a => ?_, fun a => ?_⟩
  · rw [off6_eq h]; fin_cases a; show n + 1 ≤ 2560; omega
  · rw [off8_eq h]; fin_cases a
    · show n + 1 ≤ 2560; omega
    · show 0 + 896 ≤ 896; omega
  · rw [off9_eq h]; fin_cases a; show n + 1 ≤ 2560; omega

theorem chk3_of (i : grid0.Coords) {v : BitVec 32} (hv : v.toNat < 151936) (h : v.toNat / 256 = (i 0).val) : k0_chk3 i v := fun a => by
  rw [off7_eq i hv h]
  fin_cases a
  · show v.toNat % 256 + 1 ≤ 256; omega
  · show 0 + 896 ≤ 896; omega

/-- The store of a token's row is the addition of the row. -/
theorem put_row (tbl : Vec F S2560 .i32) (X14 : Vec F S2560x896 .f32) (X : Vec F S256x896 .f32) (n : Fin 2560) {o7 o8 : Fin 2 → ℕ}
    (h7 : o7 = ![BitVec.toNat (tbl (ix1 n) : BitVec 32) % 256, 0]) (h8 : o8 = ![n.val, 0]) (i7 i8) :
    put (Rect.unit (s := S256x896) o7 S1x896.size i7) X
      (k0_pay6 (fun x => X ((Rect.unit (s := S256x896) o7 S1x896.size i7).emb x))
        (fun x => X14 ((Rect.unit (s := S2560x896) o8 S1x896.size i8).emb x)))
      = addRow tbl X14 n.val X := by
  subst h7 h8
  funext y
  unfold addRow
  rw [dif_pos n.isLt]
  by_cases h : (y 0).val = BitVec.toNat (tbl (ix1 n) : BitVec 32) % 256
  · rw [if_pos h]
    have hy : (Rect.unit (s := S256x896) ![BitVec.toNat (tbl (ix1 n) : BitVec 32) % 256, 0] S1x896.size i7).emb (ix (m := 1) (n := 896) 0 (y 1)) = y := by
      refine funext fun a => Fin.ext ?_
      fin_cases a
      · show BitVec.toNat (tbl (ix1 n) : BitVec 32) % 256 + 1 * 0 = (y 0).val
        omega
      · show 0 + 1 * (y 1).val = (y 1).val
        omega
    conv_lhs => rw [← hy]
    refine (put_emb _ _ _ _).trans ?_
    unfold k0_pay6
    simp only [Idealize.ShloMosaic.shapeCast_self]
    show FloatOps.addf (X _) (X14 _) = _
    rw [hy]
    congr 1
    refine congrArg X14 (ix_eq _ _ _ ?_ ?_)
    · show n.val + 1 * 0 = n.val; omega
    · show 0 + 1 * (y 1).val = (y 1).val; omega
  · rw [if_neg h]
    refine put_of_not_mem _ _ _ fun hm => h ?_
    have := Rect.mem_set_unit.1 hm 0
    change BitVec.toNat (tbl (ix1 n) : BitVec 32) % 256 ≤ (y 0).val ∧ (y 0).val < BitVec.toNat (tbl (ix1 n) : BitVec 32) % 256 + 1 at this
    omega

section Label

variable (i : grid0.Coords)
  (arg1 : Memref sig .tc .smem S2560 .i32) (harg1 : arg1.IsWhole)
  (arg9 : Memref sig .tc .vmem S256x896 .f32) (harg9 : arg9.IsWhole)
  (arg14 : Memref sig .tc .vmem S2560x896 .f32) (harg14 : arg14.IsWhole)
  (arg16 : Memref sig .tc .smem S2560 .i32) (harg16 : arg16.IsWhole)
  (c : Dev nD) (tbl : Vec F S2560 .i32) (X14 : Vec F S2560x896 .f32) (q : PosShare TreeShare)

/-- What the walk holds: the ids, the rows, the successors, and the tile at `X`. -/
def walkHeld (X : Vec F S256x896 .f32) : sProp 𝕄 :=
  iprop(owns (c : Thread nD τ) arg1 q tbl ∗ owns (c : Thread nD τ) arg9 fullShare X ∗ owns (c : Thread nD τ) arg14 fullShare X14
    ∗ owns (c : Thread nD τ) arg16 fullShare (nextOf tbl))

/-- The walk from the tokens below `n`. -/
def walkSpec (v n : ℕ) (X : Vec F S256x896 .f32) : sWPT 𝕄 (BitVec 32) := do
  sWPT.consume (walkHeld arg1 arg9 arg14 arg16 c tbl X14 q X)
  let r ← sWPT.arbitrary
  sWPT.produce (walkHeld arg1 arg9 arg14 arg16 c tbl X14 q (walk (tileNo tbl) v (addRow tbl X14) n X))
  pure r

theorem walkSpec_apply (v n : ℕ) (X : Vec F S256x896 .f32) (K : BitVec 32 → sProp 𝕄) :
    walkSpec arg1 arg9 arg14 arg16 c tbl X14 q v n X K
      = iprop(walkHeld arg1 arg9 arg14 arg16 c tbl X14 q X
        ∗ ∀ r : BitVec 32, walkHeld arg1 arg9 arg14 arg16 c tbl X14 q (walk (tileNo tbl) v (addRow tbl X14) n X) -∗ K r) := rfl

theorem walk_le (hv : InVocab tbl) (E : Set ℕ) (n : ℕ) : n ≤ 2560 → ∀ (k : ℕ), n ≤ k → ∀ X K,
    (walkSpec arg1 arg9 arg14 arg16 c tbl X14 q (i 0).val n X K : sProp 𝕄)
      ⊢ wp frame (wpE (defs₀ (F := F)) 𝒱₀ (c : Thread nD τ) (some k)) E
          (defs₀ (F := F) .tc 1 ⟨i, arg1, harg1, arg9, harg9, arg14, harg14, arg16, harg16, enc (last (tileNo tbl) n (i 0).val)⟩) K := by
  induction n with
  | zero =>
    intro _ k _ X K
    rw [walkSpec_apply]
    show _ ⊢ wp frame (wpE (defs₀ (F := F)) 𝒱₀ (c : Thread nD τ) (some k)) E
      (cc0_while1 i arg1 harg1 arg9 harg9 arg14 harg14 arg16 harg16 (enc none)) K
    unfold cc0_while1
    simp only [sge_none, ↓reduceIte, Prog.pure_eq_ret]
    iintro ⟨H, Hk⟩
    rw [wp_ret]; imodintro
    iapply Hk
    rw [walk_zero]
    iexact H
  | succ n ih =>
    intro hn k hk X K
    by_cases ht : tileNo tbl n = (i 0).val
    swap
    · rw [last_other ht]
      have := ih (by omega) k (by omega) X K
      rw [walkSpec_apply] at this ⊢
      rw [walk_other ht]
      exact this
    have hn' : n < 2560 := by omega
    have hT := tileNo_eq tbl ⟨n, hn'⟩
    have hT' : BitVec.toNat (tbl (ix1 ⟨n, hn'⟩) : BitVec 32) / 256 = (i 0).val := hT.symm.trans ht
    rw [last_self ht, walkSpec_apply]
    show _ ⊢ wp frame (wpE (defs₀ (F := F)) 𝒱₀ (c : Thread nD τ) (some k)) E
      (cc0_while1 i arg1 harg1 arg9 harg9 arg14 harg14 arg16 harg16 (enc (some n))) K
    simp only [cc0_while1_eq_skeleton]; unfold cc0_while1_skel
    simp only [sge_some hn', ↓reduceIte, Prog.lift, Prog.bind_op, Prog.bind_ret, Prog.pure_eq_ret]
    unfold walkHeld
    iintro ⟨⟨H1, H9, H14, H16⟩, Hk⟩
    iapply (wp_assume 𝒱₀ (c : Thread nD τ) (some k) E (chk2_of hn'))
    iapply (Own.loadWord 𝒱₀ (c : Thread nD τ) (some k) E (m := arg1) ⟨n, hn'⟩ (congrFun (off6_eq hn') 0)) $$ H1; iintro H1
    iapply (wp_assume 𝒱₀ (c : Thread nD τ) (some k) E (chk3_of i (hv ⟨n, hn'⟩) hT'))
    iapply (Own.load 𝒱₀ (c : Thread nD τ) (some k) E (m := arg9)) $$ H9; iintro H9
    iapply (Own.load 𝒱₀ (c : Thread nD τ) (some k) E (m := arg14)) $$ H14; iintro H14
    iapply (Own.load 𝒱₀ (c : Thread nD τ) (some k) E (m := arg9)) $$ H9; iintro H9
    iapply (Own.store 𝒱₀ (c : Thread nD τ) (some k) E (m := arg9)) $$ H9; iintro H9
    iapply (Own.loadWord 𝒱₀ (c : Thread nD τ) (some k) E (m := arg16) ⟨n, hn'⟩ (congrFun (off9_eq hn') 0)) $$ H16; iintro H16
    have hnext : nextOf tbl (ix1 ⟨n, hn'⟩) = enc (last (tileNo tbl) n (i 0).val) := by
      unfold nextOf
      show enc (last (tileNo tbl) n (tileNo tbl n)) = _
      rw [ht]
    rw [hnext]
    iapply (wp_call_spec 𝒱₀ (c : Thread nD τ) (some k) E (walkSpec arg1 arg9 arg14 arg16 c tbl X14 q (i 0).val n (addRow tbl X14 n X)) n
      (fun u hu => by cases hu; exact Nat.lt_of_succ_le hk)
      (ih (by omega) n le_rfl (addRow tbl X14 n X)))
    rw [walkSpec_apply, walk_self ht]; unfold walkHeld
    isplitl [H1 H9 H14 H16]
    · isplitl [H1]; · iexact H1
      isplitl [H9]
      · rw [← put_row tbl X14 X ⟨n, hn'⟩ (off7_eq i (hv ⟨n, hn'⟩) hT') (off8_eq hn') (k0_off7_inb i _ (chk3_of i (hv ⟨n, hn'⟩) hT')) (k0_off8_inb _ (chk2_of hn'))]
        iexact H9
      isplitl [H14]; · iexact H14
      iexact H16
    iintro %r ⟨H1, H9, H14, H16⟩
    rw [wp_ret]; imodintro
    iapply Hk
    isplitl [H1]; · iexact H1
    isplitl [H9]; · iexact H9
    isplitl [H14]; · iexact H14
    iexact H16

end Label

end Cert.Proof.P

end
-- ==== Proof.P.Parts.lean ====
/-
  The decoding of the block of logit gradients, run by run, and of the hidden states, chunk by chunk: each part of the body
  extends the agreement of the scratch with the whole block's decoding.
-/
module

public import proofs.«01_k».proof.Proof.P.While

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

/-- The 128 rows from `o` of the codes. -/
abbrev rows2 (X2 : Vec F S2560x256 .fp8e5m2) (o : ℕ) (h : ∀ a, (![o, 0] : Fin 2 → ℕ) a + S128x256.size a ≤ S2560x256.size a := by decide) :
    Vec F S128x256 .fp8e5m2 := fun x => X2 ((Rect.unit (s := S2560x256) ![o, 0] S128x256.size h).emb x)
/-- Row `k` of the scales. -/
abbrev row3 (X3 : Vec F S20x256 .f32) (k : ℕ) (h : ∀ a, (![k, 0] : Fin 2 → ℕ) a + S1x256.size a ≤ S20x256.size a := by decide) :
    Vec F S1x256 .f32 := fun x => X3 ((Rect.unit (s := S20x256) ![k, 0] S1x256.size h).emb x)
/-- The 256 rows from `o` of the hidden states' codes. -/
abbrev rows4 (X4 : Vec F S2560x896 .fp8e4m3) (o : ℕ) (h : ∀ a, (![o, 0] : Fin 2 → ℕ) a + S256x896.size a ≤ S2560x896.size a := by decide) :
    Vec F S256x896 .fp8e4m3 := fun x => X4 ((Rect.unit (s := S2560x896) ![o, 0] S256x896.size h).emb x)
/-- The 256 scales from `o`. -/
abbrev cols5 (X5 : Vec F S1x2560 .f32) (o : ℕ) (h : ∀ a, (![0, o] : Fin 2 → ℕ) a + S1x256.size a ≤ S1x2560.size a := by decide) :
    Vec F S1x256 .f32 := fun x => X5 ((Rect.unit (s := S1x2560) ![0, o] S1x256.size h).emb x)
/-- The 256 columns from `o` of the accumulator. -/
abbrev cols13 (X13 : Vec F S896x2560 .f32) (o : ℕ) (h : ∀ a, (![0, o] : Fin 2 → ℕ) a + S896x256.size a ≤ S896x2560.size a := by decide) :
    Vec F S896x256 .f32 := fun x => X13 ((Rect.unit (s := S896x2560) ![0, o] S896x256.size h).emb x)

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (v7 : IVec S1x256 1) (X2 : Vec F S2560x256 .fp8e5m2) (X3 : Vec F S20x256 .f32)
  (X4 : Vec F S2560x896 .fp8e4m3) (X5 : Vec F S1x2560 .f32)

/-- The codes, the scales and the decoded block, decoded below row `n`. -/
def dlHeld (n : ℕ) : sProp 𝕄 :=
  iprop(owns (c : Thread nD τ) arg2 fullShare X2 ∗ owns (c : Thread nD τ) arg3 fullShare X3
    ∗ ∃ X, ⌜EqRows n X (DL v7 X2 X3)⌝ ∗ owns (c : Thread nD τ) arg12 fullShare X)

/-- The hidden states' codes, their scales and their decoding, decoded below column `n`. -/
def htHeld (n : ℕ) : sProp 𝕄 :=
  iprop(owns (c : Thread nD τ) arg4 fullShare X4 ∗ owns (c : Thread nD τ) arg5 fullShare X5
    ∗ ∃ X, ⌜EqCols n X (HT X4 X5)⌝ ∗ owns (c : Thread nD τ) arg11 fullShare X)

/-- The accumulator and the hidden states' gradient, written below row `n`. -/
def dhHeld (X13 : Vec F S896x2560 .f32) (n : ℕ) : sProp 𝕄 :=
  iprop(owns (c : Thread nD τ) arg13 fullShare X13
    ∗ ∃ X, ⌜EqRows' n X (DH X13)⌝ ∗ owns (c : Thread nD τ) arg10 fullShare X)

theorem part6 (K : _ → sProp 𝕄) :
    iprop(dlHeld arg2 arg3 arg12 c (k0_pay28 i) X2 X3 128 ∗ (∀ r, ⌜r = ⟨⟩⌝ -∗ dlHeld arg2 arg3 arg12 c (k0_pay28 i) X2 X3 512 -∗ K r)) ⊢ wp frame (wpE (defs₀ (F := F)) 𝒱₀ (c : Thread nD τ) none) Set.univ
      (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay28 i) (k0_pay30 i (rows2 X2 128) (row3 X3 1))) K := by
  simp only [k0_part6_eq_skeleton]; unfold k0_part6_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 3 384 rfl rfl (dl_step 2 256 rfl rfl (dl_step 1 128 rfl rfl hX))

theorem part7 (K : _ → sProp 𝕄) :
    iprop(dlHeld arg2 arg3 arg12 c v7 X2 X3 512 ∗ (∀ r, ⌜r = (k0_pay36 v7 (rows2 X2 768))⌝ -∗ dlHeld arg2 arg3 arg12 c v7 X2 X3 768 -∗ K r)) ⊢ wp frame (wpE (defs₀ (F := F)) 𝒱₀ (c : Thread nD τ) none) Set.univ
      (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7) K := by
  simp only [k0_part7_eq_skeleton]; unfold k0_part7_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  rw [wp_ret]; imodintro
  iapply Hk
  · ipureintro; first | rfl | trivial
  isplitl [H2]; · iexact H2
  isplitl [H3]; · iexact H3
  iexists _
  isplitr
  swap
  · iexact H12
  · ipureintro
    exact dl_step 5 640 rfl rfl (dl_step 4 512 rfl rfl hX)

theorem part8 (K : _ → sProp 𝕄) :
    iprop(dlHeld arg2 arg3 arg12 c v7 X2 X3 768 ∗ (∀ r, ⌜r = ⟨k0_pay39 v7 (row3 X3 8), k0_pay40 v7 (rows2 X2 1024)⟩⌝ -∗ dlHeld arg2 arg3 arg12 c v7 X2 X3 1024 -∗ K r)) ⊢ wp frame (wpE (defs₀ (F := F)) 𝒱₀ (c : Thread nD τ) none) Set.univ
      (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay36 v7 (rows2 X2 768))) K := by
  simp only [k0_part8_eq_skeleton]; unfold k0_part8_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; first | rfl | trivial
  isplitl [H2]; · iexact H2
  isplitl [H3]; · iexact H3
  iexists _
  isplitr
  swap
  · iexact H12
  · ipureintro
    exact dl_step 7 896 rfl rfl (dl_step 6 768 rfl rfl hX)

theorem part9 (K : _ → sProp 𝕄) :
    iprop(dlHeld arg2 arg3 arg12 c v7 X2 X3 1024 ∗ (∀ r, ⌜r = ⟨⟩⌝ -∗ dlHeld arg2 arg3 arg12 c v7 X2 X3 1408 -∗ K r)) ⊢ wp frame (wpE (defs₀ (F := F)) 𝒱₀ (c : Thread nD τ) none) Set.univ
      (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay39 v7 (row3 X3 8)) (k0_pay40 v7 (rows2 X2 1024))) K := by
  simp only [k0_part9_eq_skeleton]; unfold k0_part9_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 10 1280 rfl rfl (dl_step 9 1152 rfl rfl (dl_step 8 1024 rfl rfl hX))

theorem part10 (K : _ → sProp 𝕄) :
    iprop(dlHeld arg2 arg3 arg12 c v7 X2 X3 1408 ∗ (∀ r, ⌜r = ⟨k0_pay46 (rows2 X2 1664), k0_pay47 v7, k0_pay48 (F := F)⟩⌝ -∗ dlHeld arg2 arg3 arg12 c v7 X2 X3 1664 -∗ K r)) ⊢ wp frame (wpE (defs₀ (F := F)) 𝒱₀ (c : Thread nD τ) none) Set.univ
      (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7) K := by
  simp only [k0_part10_eq_skeleton]; unfold k0_part10_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  rw [wp_ret]; imodintro
  iapply Hk
  · ipureintro; first | rfl | trivial
  isplitl [H2]; · iexact H2
  isplitl [H3]; · iexact H3
  iexists _
  isplitr
  swap
  · iexact H12
  · ipureintro
    exact dl_step 12 1536 rfl rfl (dl_step 11 1408 rfl rfl hX)

theorem part11 (K : _ → sProp 𝕄) :
    iprop(dlHeld arg2 arg3 arg12 c v7 X2 X3 1664 ∗ (∀ r, ⌜r = ⟨k0_pay51 v7 (rows2 X2 1920), k0_pay52 v7 (row3 X3 15)⟩⌝ -∗ dlHeld arg2 arg3 arg12 c v7 X2 X3 1920 -∗ K r)) ⊢ wp frame (wpE (defs₀ (F := F)) 𝒱₀ (c : Thread nD τ) none) Set.univ
      (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay46 (rows2 X2 1664)) (k0_pay47 v7) (k0_pay48 (F := F))) K := by
  simp only [k0_part11_eq_skeleton]; unfold k0_part11_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; first | rfl | trivial
  isplitl [H2]; · iexact H2
  isplitl [H3]; · iexact H3
  iexists _
  isplitr
  swap
  · iexact H12
  · ipureintro
    exact dl_step 14 1792 rfl rfl (dl_step 13 1664 rfl rfl hX)

theorem part12 (K : _ → sProp 𝕄) :
    iprop(dlHeld arg2 arg3 arg12 c v7 X2 X3 1920 ∗ (∀ r, ⌜r = (k0_pay55 v7 (rows2 X2 2176) (row3 X3 17))⌝ -∗ dlHeld arg2 arg3 arg12 c v7 X2 X3 2176 -∗ K r)) ⊢ wp frame (wpE (defs₀ (F := F)) 𝒱₀ (c : Thread nD τ) none) Set.univ
      (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay51 v7 (rows2 X2 1920)) (k0_pay52 v7 (row3 X3 15))) K := by
  simp only [k0_part12_eq_skeleton]; unfold k0_part12_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 16 2048 rfl rfl (dl_step 15 1920 rfl rfl hX)

theorem part1 (K : _ → sProp 𝕄) :
    iprop(htHeld arg4 arg5 arg11 c X4 X5 0 ∗ (∀ r, ⌜r = (rows4 X4 768)⌝ -∗ htHeld arg4 arg5 arg11 c X4 X5 768 -∗ K r)) ⊢ wp frame (wpE (defs₀ (F := F)) 𝒱₀ (c : Thread nD τ) none) Set.univ
      (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part1_eq_skeleton]; unfold k0_part1_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  rw [wp_ret]; imodintro
  iapply Hk
  · ipureintro; first | rfl | trivial
  isplitl [H4]; · iexact H4
  isplitl [H5]; · iexact H5
  iexists _
  isplitr
  swap
  · iexact H11
  · ipureintro
    exact ht_step 512 rfl (ht_step 256 rfl (ht_step 0 rfl hX))

theorem part2 (K : _ → sProp 𝕄) :
    iprop(htHeld arg4 arg5 arg11 c X4 X5 768 ∗ (∀ r, ⌜r = (k0_pay13 (rows4 X4 1536))⌝ -∗ htHeld arg4 arg5 arg11 c X4 X5 1536 -∗ K r)) ⊢ wp frame (wpE (defs₀ (F := F)) 𝒱₀ (c : Thread nD τ) none) Set.univ
      (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (rows4 X4 768)) K := by
  simp only [k0_part2_eq_skeleton]; unfold k0_part2_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  rw [wp_ret]; imodintro
  iapply Hk
  · ipureintro; first | rfl | trivial
  isplitl [H4]; · iexact H4
  isplitl [H5]; · iexact H5
  iexists _
  isplitr
  swap
  · iexact H11
  · ipureintro
    exact ht_step 1280 rfl (ht_step 1024 rfl (ht_step 768 rfl hX))

theorem part3 (K : _ → sProp 𝕄) :
    iprop(htHeld arg4 arg5 arg11 c X4 X5 1536 ∗ (∀ r, ⌜r = ⟨k0_pay17 (rows4 X4 2304), cols5 X5 2304⟩⌝ -∗ htHeld arg4 arg5 arg11 c X4 X5 2304 -∗ K r)) ⊢ wp frame (wpE (defs₀ (F := F)) 𝒱₀ (c : Thread nD τ) none) Set.univ
      (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay13 (rows4 X4 1536))) K := by
  simp only [k0_part3_eq_skeleton]; unfold k0_part3_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  rw [wp_ret]; imodintro
  iapply Hk
  · ipureintro; first | rfl | trivial
  isplitl [H4]; · iexact H4
  isplitl [H5]; · iexact H5
  iexists _
  isplitr
  swap
  · iexact H11
  · ipureintro
    exact ht_step 2048 rfl (ht_step 1792 rfl (ht_step 1536 rfl hX))

theorem part4 (X13 : Vec F S896x2560 .f32) (K : _ → sProp 𝕄) :
    iprop(dhHeld arg10 arg13 c X13 0 ∗ (∀ r, ⌜r = (k0_pay24 (cols13 X13 1536))⌝ -∗ dhHeld arg10 arg13 c X13 1536 -∗ K r)) ⊢ wp frame (wpE (defs₀ (F := F)) 𝒱₀ (c : Thread nD τ) none) Set.univ
      (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part4_eq_skeleton]; unfold k0_part4_skel dhHeld
  simp only [Prog.lift, Prog.bind_op, Prog.bind_ret, Prog.pure_eq_ret]
  iintro ⟨⟨H13, %X, %hX, H10⟩, Hk⟩
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  rw [wp_ret]; imodintro
  iapply Hk
  · ipureintro; first | rfl | trivial
  isplitl [H13]; · iexact H13
  iexists _
  isplitr
  swap
  · iexact H10
  · ipureintro
    exact dh_step 1280 rfl (dh_step 1024 rfl (dh_step 768 rfl (dh_step 512 rfl (dh_step 256 rfl (dh_step 0 rfl hX)))))

end Cert.Proof.P

end
-- ==== Proof.P.Body.lean ====
/-
  The whole body at one grid step: held are the step's blocks, the scratch at what the steps before left it, and the output
  blocks at anything; left are the embedding tile and, at the last step, the hidden states' gradient.
-/
module

public import proofs.«01_k».proof.Proof.P.Parts

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (tbl : Vec F S2560 .i32) (q : PosShare TreeShare) (X2 : Vec F S2560x256 .fp8e5m2) (X3 : Vec F S20x256 .f32)
  (X4 : Vec F S2560x896 .fp8e4m3) (X5 : Vec F S1x2560 .f32) (X6 : Vec F S256x896 .i8) (X7 : Vec F S1x256 .f32) (X8 : Vec F S2560x896 .bf16)

theorem eqCols_top {α : Type} {X G : S896x2560.Idx → α} (h : EqCols 2560 X G) : X = G := funext fun y => h y (y 1).isLt
theorem eqRows_top {α : Type} {X G : S2560x256.Idx → α} (h : EqRows 2560 X G) : X = G := funext fun y => h y (y 0).isLt
theorem eqRows'_top {α : Type} {X G : S2560x896.Idx → α} (h : EqRows' 2560 X G) : X = G := funext fun y => h y (y 0).isLt

/-- What the first step prepares for all of them: the decoded hidden states, the token gradients widened, the lists. -/
def prepared : sProp 𝕄 :=
  iprop(owns (c : Thread nD τ) arg11 fullShare (HT X4 X5) ∗ owns (c : Thread nD τ) arg14 fullShare (k0_pay27 X8)
    ∗ owns (c : Thread nD τ) arg15 fullShare (headAt tbl 2560) ∗ owns (c : Thread nD τ) arg16 fullShare (nextOf tbl))

/-- The part that begins the body, at a step after the first. -/
theorem part5_rest (h1 : ¬k0_cond1 i = 1#1) (X12 : Vec F S2560x256 .bf16) (K : _ → sProp 𝕄) :
    iprop((owns (c : Thread nD τ) arg2 fullShare X2 ∗ owns (c : Thread nD τ) arg3 fullShare X3 ∗ owns (c : Thread nD τ) arg12 fullShare X12)
      ∗ (∀ r, ⌜r = ⟨BitVec.ofNat 32 (i 0).val, k0_pay28 i, k0_pay30 i (rows2 X2 128) (row3 X3 1)⟩⌝
        -∗ dlHeld arg2 arg3 arg12 c (k0_pay28 i) X2 X3 128 -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part5_eq_skeleton]; unfold k0_part5_skel dlHeld
  simp only [dif_neg h1, Prog.lift, Prog.bind_op, Prog.bind_ret, Prog.pure_eq_ret]
  iintro ⟨⟨H2, H3, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; rfl
  isplitl [H2]; · iexact H2
  isplitl [H3]; · iexact H3
  iexists _
  isplitr
  swap
  · iexact H12
  · ipureintro
    exact dl_step 0 0 rfl rfl (fun y hy => absurd hy (Nat.not_lt_zero _))

/-- The part that begins the body, at the first step. -/
theorem part5_first (hv : InVocab tbl) (h1 : k0_cond1 i = 1#1) (X11 : Vec F S896x2560 .bf16) (X12 : Vec F S2560x256 .bf16) (X13 : Vec F S896x2560 .f32)
    (X14 : Vec F S2560x896 .f32) (X15 : Vec F S594 .i32) (X16 : Vec F S2560 .i32) (K : _ → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg8 fullShare X8
        ∗ owns (c : Thread nD τ) arg11 fullShare X11 ∗ owns (c : Thread nD τ) arg12 fullShare X12 ∗ owns (c : Thread nD τ) arg13 fullShare X13
        ∗ owns (c : Thread nD τ) arg14 fullShare X14 ∗ owns (c : Thread nD τ) arg15 fullShare X15 ∗ owns (c : Thread nD τ) arg16 fullShare X16)
      ∗ (∀ r, ⌜r = ⟨BitVec.ofNat 32 (i 0).val, k0_pay28 i, k0_pay30 i (rows2 X2 128) (row3 X3 1)⟩⌝
        -∗ (owns (c : Thread nD τ) arg1 q tbl ∗ owns (c : Thread nD τ) arg4 fullShare X4 ∗ owns (c : Thread nD τ) arg5 fullShare X5
          ∗ owns (c : Thread nD τ) arg8 fullShare X8 ∗ owns (c : Thread nD τ) arg13 fullShare (k0_pay26 (F := F))
          ∗ prepared arg11 arg14 arg15 arg16 c tbl X4 X5 X8 ∗ dlHeld arg2 arg3 arg12 c (k0_pay28 i) X2 X3 128) -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part5_eq_skeleton]; unfold k0_part5_skel dlHeld prepared
  simp only [dif_pos h1, Prog.lift, Prog.bind_op, Prog.bind_ret, Prog.pure_eq_ret]
  iintro ⟨⟨H1, H2, H3, H4, H5, H8, H11, H12, H13, H14, H15, H16⟩, Hk⟩
  rw [wp_bind]
  iapply (part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact (fun y hy => absurd hy (Nat.not_lt_zero _))
  iintro %r %hr ⟨H4, H5, %Y1, %hY1, H11⟩
  subst hr
  rw [wp_bind]
  iapply (part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact hY1
  iintro %r %hr ⟨H4, H5, %Y2, %hY2, H11⟩
  subst hr
  rw [wp_bind]
  iapply (part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact hY2
  iintro %r %hr ⟨H4, H5, %Y3, %hY3, H11⟩
  subst hr
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg13)) $$ H13; iintro H13
  iapply (Own.store 𝒱₀ (c : Thread nD τ) none Set.univ (m := arg13)) $$ H13; iintro H13
  iapply (Own.load 𝒱₀ (c : Thread nD τ) none Set.univ (m := arg8)) $$ H8; iintro H8
  iapply (Own.load 𝒱₀ (c : Thread nD τ) none Set.univ (m := arg14)) $$ H14; iintro H14
  iapply (Own.store 𝒱₀ (c : Thread nD τ) none Set.univ (m := arg14)) $$ H14; iintro H14
  iapply (Scf.wp_for_bind _ _ _ _ _ _ _ _ _ (fun k _ => heads0 arg15 c k) (fun k acc => t1_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c h1 k acc)) $$ [H15]
  · unfold heads0
    iexists X15
    isplitr
    · ipureintro; exact fun y hy => absurd hy (Nat.not_lt_zero _)
    · iexact H15
  iintro %acc H15
  unfold heads0
  icases H15 with ⟨%Y15, %hY15, H15⟩
  have h15 : Y15 = headAt tbl 0 := funext fun y => hY15 y (lt_of_lt_of_eq (y 0).isLt t1_trips.symm)
  subst h15
  iapply (Scf.wp_for_bind _ _ _ _ _ _ _ _ _ (fun k _ => listsAt arg1 arg15 arg16 c tbl q k) (fun k acc => t2_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c hv q h1 k acc)) $$ [H1 H15 H16]
  · unfold listsAt
    isplitl [H1]; · iexact H1
    isplitl [H15]; · iexact H15
    iexists X16
    isplitr
    · ipureintro; exact fun y hy => absurd hy (Nat.not_lt_zero _)
    · iexact H16
  iintro %acc2 H
  unfold listsAt
  icases H with ⟨H1, H15, %Y16, %hY16, H16⟩
  have h16 : Y16 = nextOf tbl := funext fun y => hY16 y (lt_of_lt_of_eq (y 0).isLt t2_trips.symm)
  subst h16
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; rfl
  isplitl [H1]; · iexact H1
  isplitl [H4]; · iexact H4
  isplitl [H5]; · iexact H5
  isplitl [H8]; · iexact H8
  isplitl [H13]
  · iapply (Own.recast (c : Thread nD τ) (put_full inb_S896x2560_S896x2560_0_0 X13 (k0_pay26 (F := F)))); iexact H13
  isplitl [H11 H14 H15 H16]
  · isplitl [H11]
    · iapply (Own.recast (c : Thread nD τ) (eqCols_top (ht_step 2304 (i1 := inb_S2560x896_S256x896_2304_0) (i2 := inb_S1x2560_S1x256_0_2304) (i3 := inb_S896x2560_S896x256_0_2304) rfl hY3))); iexact H11
    isplitl [H14]
    · iapply (Own.recast (c : Thread nD τ) ((put_full inb_S2560x896_S2560x896_0_0 X14 _).trans (congrArg k0_pay27 (emb_full inb_S2560x896_S2560x896_0_0 X8)))); iexact H14
    isplitl [H15]; · rw [← t2_trips]; iexact H15
    iexact H16
  isplitl [H2]; · iexact H2
  isplitl [H3]; · iexact H3
  iexists _
  isplitr
  swap
  · iexact H12
  · ipureintro
    exact dl_step 0 0 rfl rfl (fun y hy => absurd hy (Nat.not_lt_zero _))

end Cert.Proof.P

end
-- ==== Proof.P.Step.lean ====
/-
  The body at any grid step, from what the step before left to what it leaves: the tile of the embedding's gradient, the
  hidden states' gradient so far and, at the last step, its rounding.
-/
module

public import proofs.«01_k».proof.Proof.P.Body

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (tbl : Vec F S2560 .i32) (q : PosShare TreeShare) (X2 : Vec F S2560x256 .fp8e5m2) (X3 : Vec F S20x256 .f32)
  (X4 : Vec F S2560x896 .fp8e4m3) (X5 : Vec F S1x2560 .f32) (X6 : Vec F S256x896 .i8) (X7 : Vec F S1x256 .f32) (X8 : Vec F S2560x896 .bf16)

/-- The last part of the decoding: the two last runs of rows, and what the product reads. -/
theorem part13 (v7 : IVec S1x256 1) (K : _ → sProp 𝕄) :
    iprop((owns (c : Thread nD τ) arg11 fullShare (HT X4 X5) ∗ dlHeld arg2 arg3 arg12 c v7 X2 X3 2176)
      ∗ (∀ r, ⌜r = ⟨HT X4 X5, DL v7 X2 X3⟩⌝ -∗ (owns (c : Thread nD τ) arg11 fullShare (HT X4 X5)
        ∗ owns (c : Thread nD τ) arg2 fullShare X2 ∗ owns (c : Thread nD τ) arg3 fullShare X3 ∗ owns (c : Thread nD τ) arg12 fullShare (DL v7 X2 X3)) -∗ K r))
      ⊢ wp frame (wpE (defs₀ (F := F)) 𝒱₀ (c : Thread nD τ) none) Set.univ
        (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay55 v7 (rows2 X2 2176) (row3 X3 17))) K := by
  simp only [k0_part13_eq_skeleton]; unfold k0_part13_skel dlHeld
  simp only [Prog.lift, Prog.bind_op, Prog.bind_ret, Prog.pure_eq_ret]
  iintro ⟨⟨H11, H2, H3, %X, %hX, H12⟩, Hk⟩
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg11)) $$ H11; iintro H11
  iapply (Own.load 𝒱₀ (c : Thread nD τ) none Set.univ (m := arg12)) $$ H12; iintro H12
  rw [wp_ret]; imodintro
  iapply Hk
  · ipureintro
    exact congrArg₂ PSigma.mk (emb_full inb_S896x2560_S896x2560_0_0 (HT X4 X5)) ((emb_full inb_S2560x256_S2560x256_0_0 _).trans (eqRows_top (dl_step 19 2432 rfl (i1 := inb_S2560x256_S128x256_2432_0) (i2 := inb_S20x256_S1x256_19_0)
    (i3 := inb_S2560x256_S128x256_2432_0) rfl (dl_step 18 2304 rfl (i1 := inb_S2560x256_S128x256_2304_0) (i2 := inb_S20x256_S1x256_18_0)
    (i3 := inb_S2560x256_S128x256_2304_0) rfl (dl_step 17 2176 rfl (i1 := inb_S2560x256_S128x256_2176_0) (i2 := inb_S20x256_S1x256_17_0)
    (i3 := inb_S2560x256_S128x256_2176_0) rfl hX)))))
  isplitl [H11]; · iexact H11
  isplitl [H2]; · iexact H2
  isplitl [H3]; · iexact H3
  iapply (Own.recast (c : Thread nD τ) (eqRows_top (dl_step 19 2432 rfl (i1 := inb_S2560x256_S128x256_2432_0) (i2 := inb_S20x256_S1x256_19_0)
    (i3 := inb_S2560x256_S128x256_2432_0) rfl (dl_step 18 2304 rfl (i1 := inb_S2560x256_S128x256_2304_0) (i2 := inb_S20x256_S1x256_18_0)
    (i3 := inb_S2560x256_S128x256_2304_0) rfl (dl_step 17 2176 rfl (i1 := inb_S2560x256_S128x256_2176_0) (i2 := inb_S20x256_S1x256_17_0)
    (i3 := inb_S2560x256_S128x256_2176_0) rfl hX)))))
  iexact H12

/-- The scratch that persists, before a step: anything before the first, what the first prepared and the gradient so far after. -/
def before (A : Vec F S896x2560 .f32) : sProp 𝕄 :=
  if k0_cond1 i = 1#1 then
    iprop(∃ X11 X13 X14 X15 X16, owns (c : Thread nD τ) arg11 fullShare X11 ∗ owns (c : Thread nD τ) arg13 fullShare X13
      ∗ owns (c : Thread nD τ) arg14 fullShare X14 ∗ owns (c : Thread nD τ) arg15 fullShare X15 ∗ owns (c : Thread nD τ) arg16 fullShare X16)
  else iprop(prepared arg11 arg14 arg15 arg16 c tbl X4 X5 X8 ∗ owns (c : Thread nD τ) arg13 fullShare A)

/-- The gradient of the hidden states that a step adds to. -/
def acc0 (i : grid0.Coords) (A : Vec F S896x2560 .f32) : Vec F S896x2560 .f32 := if k0_cond1 i = 1#1 then k0_pay26 else A

/-- The part that begins the body, at any step. -/
theorem part5 (hv : InVocab tbl) (A : Vec F S896x2560 .f32) (X12 : Vec F S2560x256 .bf16) (K : _ → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg8 fullShare X8
        ∗ owns (c : Thread nD τ) arg12 fullShare X12 ∗ before i arg11 arg13 arg14 arg15 arg16 c tbl X4 X5 X8 A)
      ∗ (∀ r, ⌜r = ⟨BitVec.ofNat 32 (i 0).val, k0_pay28 i, k0_pay30 i (rows2 X2 128) (row3 X3 1)⟩⌝
        -∗ (owns (c : Thread nD τ) arg1 q tbl ∗ owns (c : Thread nD τ) arg4 fullShare X4 ∗ owns (c : Thread nD τ) arg5 fullShare X5
          ∗ owns (c : Thread nD τ) arg8 fullShare X8 ∗ owns (c : Thread nD τ) arg13 fullShare (acc0 i A)
          ∗ prepared arg11 arg14 arg15 arg16 c tbl X4 X5 X8 ∗ dlHeld arg2 arg3 arg12 c (k0_pay28 i) X2 X3 128) -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h1 : k0_cond1 i = 1#1
  · unfold before acc0
    rw [if_pos h1, if_pos h1]
    iintro ⟨⟨H1, H2, H3, H4, H5, H8, H12, %X11, %X13, %X14, %X15, %X16, H11, H13, H14, H15, H16⟩, Hk⟩
    iapply (part5_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c tbl q X2 X3 X4 X5 X8 hv h1 X11 X12 X13 X14 X15 X16 K)
    isplitl [H1 H2 H3 H4 H5 H8 H12 H11 H13 H14 H15 H16]
    · isplitl [H1]; · iexact H1
      isplitl [H2]; · iexact H2
      isplitl [H3]; · iexact H3
      isplitl [H4]; · iexact H4
      isplitl [H5]; · iexact H5
      isplitl [H8]; · iexact H8
      isplitl [H11]; · iexact H11
      isplitl [H12]; · iexact H12
      isplitl [H13]; · iexact H13
      isplitl [H14]; · iexact H14
      isplitl [H15]; · iexact H15
      iexact H16
    · iexact Hk
  · unfold before acc0
    rw [if_neg h1, if_neg h1]
    iintro ⟨⟨H1, H2, H3, H4, H5, H8, H12, HP, H13⟩, Hk⟩
    iapply (part5_rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 h1 X12 K)
    isplitl [H2 H3 H12]
    · isplitl [H2]; · iexact H2
      isplitl [H3]; · iexact H3
      iexact H12
    iintro %r %hr HD
    iapply Hk
    · ipureintro; exact hr
    isplitl [H1]; · iexact H1
    isplitl [H4]; · iexact H4
    isplitl [H5]; · iexact H5
    isplitl [H8]; · iexact H8
    isplitl [H13]; · iexact H13
    isplitl [HP]; · iexact HP
    iexact HD

/-- The tile that a step leaves. -/
def tileAfter (i : grid0.Coords) (tbl : Vec F S2560 .i32) (X2 : Vec F S2560x256 .fp8e5m2) (X3 : Vec F S20x256 .f32)
    (X4 : Vec F S2560x896 .fp8e4m3) (X5 : Vec F S1x2560 .f32) (X8 : Vec F S2560x896 .bf16) : Vec F S256x896 .f32 :=
  tileOf tbl (k0_pay27 X8) (i 0).val (k0_pay1 (HT X4 X5) (DL (k0_pay28 i) X2 X3))

/-- The gradient of the hidden states that a step leaves. -/
def accAfter (i : grid0.Coords) (X2 : Vec F S2560x256 .fp8e5m2) (X3 : Vec F S20x256 .f32) (X6 : Vec F S256x896 .i8) (X7 : Vec F S1x256 .f32)
    (A : Vec F S896x2560 .f32) : Vec F S896x2560 .f32 :=
  k0_pay2 (k0_pay28 i) X7 X6 (acc0 i A) (DL (k0_pay28 i) X2 X3)

/-- The body at any step. -/
theorem body (hv : InVocab tbl) (A : Vec F S896x2560 .f32) (X9 : Vec F S256x896 .f32) (X10 : Vec F S2560x896 .bf16) (X12 : Vec F S2560x256 .bf16)
    (K : PUnit → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare X10
        ∗ owns (c : Thread nD τ) arg12 fullShare X12 ∗ before i arg11 arg13 arg14 arg15 arg16 c tbl X4 X5 X8 A)
      ∗ ((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare (tileAfter i tbl X2 X3 X4 X5 X8)
        ∗ (∃ X, ⌜k0_cond2 i = 1#1 → X = DH (accAfter i X2 X3 X6 X7 A)⌝ ∗ owns (c : Thread nD τ) arg10 fullShare X)
        ∗ owns (c : Thread nD τ) arg12 fullShare (DL (k0_pay28 i) X2 X3) ∗ prepared arg11 arg14 arg15 arg16 c tbl X4 X5 X8
        ∗ owns (c : Thread nD τ) arg13 fullShare (accAfter i X2 X3 X6 X7 A)) -∗ K ⟨⟩))
      ⊢ wp frame (wpE (defs₀ (F := F)) 𝒱₀ (c : Thread nD τ) none) Set.univ (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_tied_embedding_grad_eq_skeleton]; unfold cc0_tied_embedding_grad_skel
  simp only [Prog.lift, Prog.bind_op, Prog.bind_ret, Prog.pure_eq_ret]
  iintro ⟨⟨H1, H2, H3, H4, H5, H6, H7, H8, H9, H10, H12, HB⟩, Hk⟩
  rw [wp_bind]
  iapply (part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c tbl q X2 X3 X4 X5 X8 hv A X12 _)
  isplitl [H1 H2 H3 H4 H5 H8 H12 HB]
  · isplitl [H1]; · iexact H1
    isplitl [H2]; · iexact H2
    isplitl [H3]; · iexact H3
    isplitl [H4]; · iexact H4
    isplitl [H5]; · iexact H5
    isplitl [H8]; · iexact H8
    isplitl [H12]; · iexact H12
    iexact HB
  iintro %r %hr ⟨H1, H4, H5, H8, H13, HP, HD⟩
  subst hr
  rw [wp_bind]
  iapply (part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 _)
  isplitl [HD]; · iexact HD
  iintro %r %hr HD
  subst hr
  rw [wp_bind]
  iapply (part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  unfold prepared
  icases HP with ⟨H11, H14, H15, H16⟩
  rw [wp_bind]
  iapply (part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 (k0_pay28 i) _)
  isplitl [H11 HD]
  · isplitl [H11]; · iexact H11
    iexact HD
  iintro %r %hr ⟨H11, H2, H3, H12⟩
  subst hr
  dsimp only
  iapply (Own.load 𝒱₀ (c : Thread nD τ) none Set.univ (m := arg9)) $$ H9; iintro H9
  iapply (Own.store 𝒱₀ (c : Thread nD τ) none Set.univ (m := arg9)) $$ H9; iintro H9
  ihave H9 := (Own.recast (c : Thread nD τ) (put_full inb_S256x896_S256x896_0_0 X9 (k0_pay1 (HT X4 X5) (DL (k0_pay28 i) X2 X3)))) $$ H9
  iapply (Own.load 𝒱₀ (c : Thread nD τ) none Set.univ (m := arg7)) $$ H7; iintro H7
  iapply (Own.load 𝒱₀ (c : Thread nD τ) none Set.univ (m := arg6)) $$ H6; iintro H6
  iapply (Own.load 𝒱₀ (c : Thread nD τ) none Set.univ (m := arg13)) $$ H13; iintro H13
  iapply (Own.load 𝒱₀ (c : Thread nD τ) none Set.univ (m := arg12)) $$ H12; iintro H12
  iapply (Own.load 𝒱₀ (c : Thread nD τ) none Set.univ (m := arg13)) $$ H13; iintro H13
  iapply (Own.store 𝒱₀ (c : Thread nD τ) none Set.univ (m := arg13)) $$ H13; iintro H13
  have e13 : accAfter i X2 X3 X6 X7 A = k0_pay2 (k0_pay28 i) (fun x => X7 ((Rect.unit (s := S1x256) ![0, 0] S1x256.size inb_S1x256_S1x256_0_0).emb x))
      (fun x => X6 ((Rect.unit (s := S256x896) ![0, 0] S256x896.size inb_S256x896_S256x896_0_0).emb x))
      (fun x => (acc0 i A) ((Rect.unit (s := S896x2560) ![0, 0] S896x2560.size inb_S896x2560_S896x2560_0_0).emb x))
      (fun x => (DL (k0_pay28 i) X2 X3) ((Rect.unit (s := S2560x256) ![0, 0] S2560x256.size inb_S2560x256_S2560x256_0_0).emb x)) := by
    have a := emb_full inb_S1x256_S1x256_0_0 X7
    have b := emb_full inb_S256x896_S256x896_0_0 X6
    have d := emb_full inb_S896x2560_S896x2560_0_0 (acc0 i A)
    have e := emb_full inb_S2560x256_S2560x256_0_0 (DL (k0_pay28 i) X2 X3)
    exact (congr (congr (congr (congrArg (k0_pay2 (k0_pay28 i)) a) b) d) e).symm
  have e14 : put (Rect.unit (s := S896x2560) ![0, 0] S896x2560.size inb_S896x2560_S896x2560_0_0) (acc0 i A) (k0_pay2 (k0_pay28 i)
      (fun x => X7 ((Rect.unit (s := S1x256) ![0, 0] S1x256.size inb_S1x256_S1x256_0_0).emb x))
      (fun x => X6 ((Rect.unit (s := S256x896) ![0, 0] S256x896.size inb_S256x896_S256x896_0_0).emb x))
      (fun x => (acc0 i A) ((Rect.unit (s := S896x2560) ![0, 0] S896x2560.size inb_S896x2560_S896x2560_0_0).emb x))
      (fun x => (DL (k0_pay28 i) X2 X3) ((Rect.unit (s := S2560x256) ![0, 0] S2560x256.size inb_S2560x256_S2560x256_0_0).emb x)))
      = accAfter i X2 X3 X6 X7 A := by
    rw [e13]
    exact put_full inb_S896x2560_S896x2560_0_0 _ _
  iapply (Own.rename (c : Thread nD τ) (m := arg13) (q := fullShare) e14)
  isplitl [H13]; · iexact H13
  iintro H13
  iapply (Own.loadWord 𝒱₀ (c : Thread nD τ) none Set.univ (m := arg15) (i 0) (congrFun (k0_off5_eq i) 0)) $$ H15; iintro H15
  have e15 : (headAt tbl 2560 (ix1 (i 0)) : BitVec 32) = enc (last (tileNo tbl) 2560 (i 0).val) := rfl
  rw [e15]
  iapply (wp_call_spec 𝒱₀ (c : Thread nD τ) none Set.univ
    (walkSpec arg1 arg9 arg14 arg16 c tbl (k0_pay27 X8) q (i 0).val 2560 (k0_pay1 (HT X4 X5) (DL (k0_pay28 i) X2 X3))) 2560 (fun u hu => nomatch hu)
    (walk_le i arg1 harg1 arg9 harg9 arg14 harg14 arg16 harg16 c tbl (k0_pay27 X8) q hv Set.univ 2560 le_rfl 2560 le_rfl (k0_pay1 (HT X4 X5) (DL (k0_pay28 i) X2 X3))))
  rw [walkSpec_apply]
  unfold walkHeld
  isplitl [H1 H9 H14 H16]
  · isplitl [H1]; · iexact H1
    isplitl [H9]; · iexact H9
    isplitl [H14]; · iexact H14
    iexact H16
  iintro %r ⟨H1, H9, H14, H16⟩
  by_cases h2 : k0_cond2 i = 1#1
  · simp only [dif_pos h2, Prog.lift, Prog.bind_op, Prog.bind_ret, Prog.pure_eq_ret]
    rw [wp_bind]
    iapply (part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (accAfter i X2 X3 X6 X7 A) _)
    unfold dhHeld
    isplitl [H13 H10]
    · isplitl [H13]; · iexact H13
      iexists X10
      isplitr
      · ipureintro; exact fun y hy => absurd hy (Nat.not_lt_zero _)
      · iexact H10
    iintro %r4 %hr ⟨H13, %X, %hX, H10⟩
    subst hr
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _
      isplitr
      swap
      · iexact H10
      · ipureintro
        exact fun _ => eqRows'_top (dh_step 2304 (i1 := inb_S896x2560_S896x256_0_2304) (i3 := inb_S2560x896_S256x896_2304_0) rfl
          (dh_step 2048 (i1 := inb_S896x2560_S896x256_0_2048) (i3 := inb_S2560x896_S256x896_2048_0) rfl
          (dh_step 1792 (i1 := inb_S896x2560_S896x256_0_1792) (i3 := inb_S2560x896_S256x896_1792_0) rfl
          (dh_step 1536 (i1 := inb_S896x2560_S896x256_0_1536) (i3 := inb_S2560x896_S256x896_1536_0) rfl hX))))
    isplitl [H12]; · iexact H12
    isplitr [H13]
    · isplitl [H11]; · iexact H11
      isplitl [H14]; · iexact H14
      isplitl [H15]; · iexact H15
      iexact H16
    iexact H13
  · simp only [dif_neg h2, Prog.lift, Prog.bind_op, Prog.bind_ret, Prog.pure_eq_ret]
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists X10
      isplitr
      · ipureintro; exact fun h => absurd h h2
      · iexact H10
    isplitl [H12]; · iexact H12
    isplitr [H13]
    · isplitl [H11]; · iexact H11
      isplitl [H14]; · iexact H14
      isplitl [H15]; · iexact H15
      iexact H16
    iexact H13

end Cert.Proof.P

end
-- ==== Proof.P.Data.lean ====
/-
  The launch of the kernel's one region: what the arrays hold when it is entered, what passes from one grid step to the next
  beside the staged blocks, and one grid step on the staged blocks.
-/
module

public import proofs.«01_k».proof.Proof.P.Step
public import proofs.«01_k».proof.Proof.Gen.Kernel.Launch
public import Idealize.ShloMosaic.Lib.Pipeline.FrameBody
public import Idealize.ShloMosaic.Lib.Pipeline.FrameSuffix
public import Idealize.ShloMosaic.Lib.Claim

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the reshapes of the arguments. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The prefetched table: the token ids, as the region finds them. -/
abbrev tbl (c : Dev nD) : Vec F S2560 .i32 := V m c main_v0

/-- The contents the region runs at: the table as launched. The region asks nothing of them. -/
def adm : (p : Fin 1) → (pcfgs (F := F) p).Adm := fun _ => ⟨fun k => V m 0 (pre0.ref k), trivial⟩

/-- The pipeline at those contents. -/
abbrev cfgA : Cfg sig (Λ₀ F) := Pipeline.pin (pcfgs (F := F)) (adm m) 0

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the reshapes, the region and the reshape of its second result. -/
theorem hmain : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] hostOps0_sub hostOps0_fresh main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) fun k => ?_
  simp only [hostOps1, List.mem_cons, List.mem_nil_iff, or_false] at hop
  subst hop
  rw [StableHlo.reshape_bufs]
  fin_cases k
  simp only [Finset.mem_insert, Finset.mem_singleton, not_or]
  exact ⟨StableHlo.devRef_ne_of_ne (by decide), StableHlo.devRef_ne_of_ne (by decide)⟩

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  rw [StableHlo.reshape_writes, Finset.mem_singleton]
  exact StableHlo.devRef_ne_of_ne ((by decide : ∀ w, Pipeline.arrRef spec0 w ≠ main_v8) w)

theorem sfx_writes : ∀ ops ∈ ([hostOps1] : List (List (HloOp τ sig (Elt F)))), ∀ op ∈ ops,
    ∀ b : Ref sig .tc, Proc.devRef .tc b ∈ op.writes → b ∈ ({main_v8} : Finset (Ref sig .tc)) := by
  intro ops hops op hop
  simp only [List.mem_cons, List.mem_nil_iff, or_false] at hops
  subst hops
  simp only [hostOps1, List.mem_cons, List.mem_nil_iff, or_false] at hop
  subst hop
  intro b hb
  rw [StableHlo.reshape_writes, Finset.mem_singleton] at hb
  exact Finset.mem_singleton.mpr (Proc.devRef_injective _ hb)

/-! ## The grid -/

theorem coords_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 593 := by decide +kernel

/-! ## What passes from step to step -/

/-- Beside the staged blocks, before step `t`: the table, the random generator's register, the decoded gradient's buffer
    at anything, and, from the second step on, the hidden states, the chains of the table and the rows of the embeddings'
    gradient prepared, and the hidden states' gradient so far at contents that meet `P t`. -/
def PhiAt (P : ℕ → Vec F S896x2560 .f32 → Prop) (c : Dev nD) (t : ℕ) : sProp 𝕄 :=
  iprop(owns (c : Thread nD τ) (Memref.whole main_v0) fullShare.right (tbl m c) ∗ (∃ r, prngReg c r)
    ∗ (∃ X, owns (c : Thread nD τ) (Memref.whole cc0_scratch1) fullShare X)
    ∗ if t = 0 then
        iprop((∃ X, owns (c : Thread nD τ) (Memref.whole cc0_scratch0) fullShare X) ∗ (∃ X, owns (c : Thread nD τ) (Memref.whole cc0_scratch2) fullShare X)
          ∗ (∃ X, owns (c : Thread nD τ) (Memref.whole cc0_scratch3) fullShare X) ∗ (∃ X, owns (c : Thread nD τ) (Memref.whole cc0_scratch4) fullShare X)
          ∗ (∃ X, owns (c : Thread nD τ) (Memref.whole cc0_scratch5) fullShare X))
      else
        iprop(prepared (Memref.whole cc0_scratch0) (Memref.whole cc0_scratch3) (Memref.whole cc0_scratch4) (Memref.whole cc0_scratch5) c
            (tbl m c) (V m c main_v3) (V m c main_v4) (V m c main_v6)
          ∗ ∃ A, ⌜P t A⌝ ∗ owns (c : Thread nD τ) (Memref.whole cc0_scratch2) fullShare A))

theorem PhiAt_zero (P : ℕ → Vec F S896x2560 .f32 → Prop) (c : Dev nD) :
    PhiAt m P c 0 = iprop(owns (c : Thread nD τ) (Memref.whole main_v0) fullShare.right (tbl m c) ∗ (∃ r, prngReg c r)
    ∗ (∃ X, owns (c : Thread nD τ) (Memref.whole cc0_scratch1) fullShare X)
    ∗ (∃ X, owns (c : Thread nD τ) (Memref.whole cc0_scratch0) fullShare X) ∗ (∃ X, owns (c : Thread nD τ) (Memref.whole cc0_scratch2) fullShare X)
          ∗ (∃ X, owns (c : Thread nD τ) (Memref.whole cc0_scratch3) fullShare X) ∗ (∃ X, owns (c : Thread nD τ) (Memref.whole cc0_scratch4) fullShare X)
          ∗ (∃ X, owns (c : Thread nD τ) (Memref.whole cc0_scratch5) fullShare X)) := by
  unfold PhiAt; rw [if_pos rfl]

theorem PhiAt_pos (P : ℕ → Vec F S896x2560 .f32 → Prop) (c : Dev nD) {t : ℕ} (h : t ≠ 0) :
    PhiAt m P c t = iprop(owns (c : Thread nD τ) (Memref.whole main_v0) fullShare.right (tbl m c) ∗ (∃ r, prngReg c r)
    ∗ (∃ X, owns (c : Thread nD τ) (Memref.whole cc0_scratch1) fullShare X)
    ∗ prepared (Memref.whole cc0_scratch0) (Memref.whole cc0_scratch3) (Memref.whole cc0_scratch4) (Memref.whole cc0_scratch5) c
            (tbl m c) (V m c main_v3) (V m c main_v4) (V m c main_v6)
          ∗ ∃ A, ⌜P t A⌝ ∗ owns (c : Thread nD τ) (Memref.whole cc0_scratch2) fullShare A) := by
  unfold PhiAt; rw [if_neg h]

/-! ## One step on the staged blocks -/

section Point

variable (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)

variable (c : Dev nD) (X2 : Vec F S2560x256 .fp8e5m2) (X3 : Vec F S20x256 .f32) (X6 : Vec F S256x896 .i8) (X7 : Vec F S1x256 .f32)

/-- The body on staged blocks and the region's own buffers. -/
abbrev bodyOn (i : grid0.Coords) : Prog (TpuEff nD τ sig (Elt F) (Λ₀ F) .tc) PUnit :=
  cc0_tied_embedding_grad i (Memref.whole main_v0) (Memref.isWhole_whole _) arg2 harg2 arg3 harg3 arg4 harg4 arg5 harg5 arg6 harg6 arg7 harg7
    arg8 harg8 arg9 harg9 arg10 harg10 (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)

/-- The five staged inputs and the hidden states and embeddings' gradient, held. -/
abbrev inputs : sProp 𝕄 :=
  iprop(owns (c : Thread nD τ) arg2 fullShare X2 ∗ owns (c : Thread nD τ) arg3 fullShare X3
    ∗ owns (c : Thread nD τ) arg4 fullShare (V m c main_v3 : Vec F S2560x896 .fp8e4m3) ∗ owns (c : Thread nD τ) arg5 fullShare (V m c main_v4 : Vec F S1x2560 .f32)
    ∗ owns (c : Thread nD τ) arg6 fullShare X6 ∗ owns (c : Thread nD τ) arg7 fullShare X7
    ∗ owns (c : Thread nD τ) arg8 fullShare (V m c main_v6 : Vec F S2560x896 .bf16))

/-- One step: the inputs stay, the tile of the embedding's gradient is written, the hidden states' gradient moves on and is
    rounded at the last step. -/
theorem point (hv : InVocab (tbl m c)) (P : ℕ → Vec F S896x2560 .f32 → Prop) (t : Fin grid0.N)
    (hP : ∀ A, (t.val ≠ 0 → P t.val A) → P (t.val + 1) (accAfter (grid0.coords t) X2 X3 X6 X7 A))
    (X9 : Vec F S256x896 .f32) (X10 : Vec F S2560x896 .bf16) (K : PUnit → sProp 𝕄) :
    iprop((PhiAt m P c t.val ∗ inputs m arg2 arg3 arg4 arg5 arg6 arg7 arg8 c X2 X3 X6 X7 ∗ owns (c : Thread nD τ) arg9 fullShare X9
        ∗ owns (c : Thread nD τ) arg10 fullShare X10)
      ∗ ((PhiAt m P c (t.val + 1) ∗ inputs m arg2 arg3 arg4 arg5 arg6 arg7 arg8 c X2 X3 X6 X7
          ∗ owns (c : Thread nD τ) arg9 fullShare (tileAfter (grid0.coords t) (tbl m c) X2 X3 (V m c main_v3) (V m c main_v4) (V m c main_v6))
          ∗ ∃ X, ⌜t.val = 593 → ∃ A, (t.val ≠ 0 → P t.val A) ∧ X = DH (accAfter (grid0.coords t) X2 X3 X6 X7 A)⌝ ∗ owns (c : Thread nD τ) arg10 fullShare X) -∗ K ⟨⟩))
      ⊢ wp frame (wpE (defs₀ (F := F)) 𝒱₀ (c : Thread nD τ) none) Set.univ
        (bodyOn arg2 harg2 arg3 harg3 arg4 harg4 arg5 harg5 arg6 harg6 arg7 harg7 arg8 harg8 arg9 harg9 arg10 harg10 (grid0.coords t)) K := by
  rw [PhiAt_pos m P c (Nat.succ_ne_zero _)]
  by_cases h0 : t.val = 0
  · rw [h0, PhiAt_zero]
    rw [h0] at hP
    iintro ⟨⟨⟨H1, Hr, ⟨%X12, H12⟩, ⟨%X11, H11⟩, ⟨%X13, H13⟩, ⟨%X14, H14⟩, ⟨%X15, H15⟩, ⟨%X16, H16⟩⟩, ⟨H2, H3, H4, H5, H6, H7, H8⟩, H9, H10⟩, Hk⟩
    iapply (body (grid0.coords t) (Memref.whole main_v0) (Memref.isWhole_whole _) arg2 harg2 arg3 harg3 arg4 harg4 arg5 harg5 arg6 harg6 arg7 harg7
      arg8 harg8 arg9 harg9 arg10 harg10 (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      c (tbl m c) fullShare.right X2 X3 (V m c main_v3) (V m c main_v4) X6 X7 (V m c main_v6) hv X13 X9 X10 X12 K)
    unfold before
    rw [if_pos ((cond1_iff t).mpr h0)]
    isplitr [Hk Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      iexists X11; iexists X13; iexists X14; iexists X15; iexists X16
      isplitl [H11]; · iexact H11
      isplitl [H13]; · iexact H13
      isplitl [H14]; · iexact H14
      isplitl [H15]; · iexact H15
      iexact H16
    iintro ⟨H1, H2, H3, H4, H5, H6, H7, H8, H9, ⟨%X, %hX, H10⟩, H12, Hp, H13⟩
    iapply Hk
    isplitl [H1 Hr H12 Hp H13]
    · isplitl [H1]; · iexact H1
      isplitl [Hr]; · iexact Hr
      isplitl [H12]; · iexists _; iexact H12
      isplitl [Hp]; · iexact Hp
      iexists _; isplitr
      swap; · iexact H13
      ipureintro; exact hP X13 fun h => absurd rfl h
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexists X; isplitr
    swap; · iexact H10
    ipureintro; intro h; exact absurd h (by decide)
  · rw [PhiAt_pos m P c h0]
    iintro ⟨⟨⟨H1, Hr, ⟨%X12, H12⟩, Hp, ⟨%A, %hA, H13⟩⟩, ⟨H2, H3, H4, H5, H6, H7, H8⟩, H9, H10⟩, Hk⟩
    iapply (body (grid0.coords t) (Memref.whole main_v0) (Memref.isWhole_whole _) arg2 harg2 arg3 harg3 arg4 harg4 arg5 harg5 arg6 harg6 arg7 harg7
      arg8 harg8 arg9 harg9 arg10 harg10 (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      c (tbl m c) fullShare.right X2 X3 (V m c main_v3) (V m c main_v4) X6 X7 (V m c main_v6) hv A X9 X10 X12 K)
    unfold before
    rw [if_neg (fun h => h0 ((cond1_iff t).mp h))]
    isplitr [Hk Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [Hp]; · iexact Hp
      iexact H13
    iintro ⟨H1, H2, H3, H4, H5, H6, H7, H8, H9, ⟨%X, %hX, H10⟩, H12, Hp, H13⟩
    iapply Hk
    isplitl [H1 Hr H12 Hp H13]
    · isplitl [H1]; · iexact H1
      isplitl [Hr]; · iexact Hr
      isplitl [H12]; · iexists _; iexact H12
      isplitl [Hp]; · iexact Hp
      iexists _; isplitr
      swap; · iexact H13
      ipureintro; exact hP A fun _ => hA
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexists X; isplitr
    swap; · iexact H10
    ipureintro; intro h
    exact ⟨A, fun _ => hA, hX ((cond2_iff t).mpr h)⟩

end Point

end Cert.Proof.P

end
-- ==== Proof.P.Blocks.lean ====
/-
  The staged blocks of the region's windows: which elements of which array a step finds in each.
-/
module

public import proofs.«01_k».proof.Proof.P.Data
public import proofs.«01_k».proof.Proof.Gen.Kernel.Launch
public import Idealize.ShloMosaic.Lib.Pipeline.FrameBody
public import Idealize.ShloMosaic.Lib.Pipeline.FrameSuffix
public import Idealize.ShloMosaic.Lib.Claim

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at step `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- What window `w`'s staging buffer holds when the block of step `t` is copied over contents `d`. -/
abbrev fetched (c : Dev nD) (w : Fin (cfgA m).W) (t : Fin (cfgA m).N) (d : ((cfgA m).win w).block.Idx → Elt F ((cfgA m).win w).elt) :
    ((cfgA m).win w).block.Idx → Elt F ((cfgA m).win w).elt :=
  ((cfgA m).win w).fill ((cfgA m).grid.coords t) d (iblk m c w t)

/-- Contents to name where any will do. -/
def anyOf (w : Fin (cfgA m).W) : ((cfgA m).win w).block.Idx → Elt F ((cfgA m).win w).elt := fun _ => Classical.arbitrary _

/-- The windows that hold an array whole hold it at every step. -/
theorem fetched_2 (c : Dev nD) (t : Fin (cfgA m).N) (d) : fetched m c 2 t d = (V m c main_v3 : Vec F S2560x896 .fp8e4m3) := by
  funext j
  show (V m c main_v3 : Vec F S2560x896 .fp8e4m3) _ = (V m c main_v3 : Vec F S2560x896 .fp8e4m3) _
  congr 1
  funext a; apply Fin.ext
  show cc0_transform_2 ((cfgA m).grid.coords t) a * S2560x896.size a + 1 * (j a).val = (j a).val
  have : cc0_transform_2 ((cfgA m).grid.coords t) a = 0 := by fin_cases a <;> rfl
  rw [this]; omega

theorem fetched_3 (c : Dev nD) (t : Fin (cfgA m).N) (d) : fetched m c 3 t d = (V m c main_v4 : Vec F S1x2560 .f32) := by
  funext j
  show (V m c main_v4 : Vec F S1x2560 .f32) _ = (V m c main_v4 : Vec F S1x2560 .f32) _
  congr 1
  funext a; apply Fin.ext
  show cc0_transform_3 ((cfgA m).grid.coords t) a * S1x2560.size a + 1 * (j a).val = (j a).val
  have : cc0_transform_3 ((cfgA m).grid.coords t) a = 0 := by fin_cases a <;> rfl
  rw [this]; omega

theorem fetched_6 (c : Dev nD) (t : Fin (cfgA m).N) (d) : fetched m c 6 t d = (V m c main_v6 : Vec F S2560x896 .bf16) := by
  funext j
  show (V m c main_v6 : Vec F S2560x896 .bf16) _ = (V m c main_v6 : Vec F S2560x896 .bf16) _
  congr 1
  funext a; apply Fin.ext
  show cc0_transform_6 ((cfgA m).grid.coords t) a * S2560x896.size a + 1 * (j a).val = (j a).val
  have : cc0_transform_6 ((cfgA m).grid.coords t) a = 0 := by fin_cases a <;> rfl
  rw [this]; omega

/-- Input window `w` is found holding its block, for any proof data that reads the region's arrays and leaves the block. -/
theorem before_of {c : Dev nD} (dat : Dat τ (Elt F) Unit ℕ (UR sig nD τ) ℕ (cfgA m) c) (w : Fin (cfgA m).W)
    (hA : dat.A w = V m c (Pipeline.arrRef spec0 w)) (hafter : ∀ t, dat.after w t = fetched m c w t (anyOf m w))
    (hin : ((cfgA m).win w).isOut = false) (hlive : ∀ i, (cfgA m).idle w i = false)
    (hclip : ∀ t t' : Fin (cfgA m).N, ((cfgA m).win w).index t = ((cfgA m).win w).index t' →
      ((cfgA m).win w).clip ((cfgA m).grid.coords t) = ((cfgA m).win w).clip ((cfgA m).grid.coords t'))
    (t : Fin (cfgA m).N) (d) : dat.before w t d = fetched m c w t d := by
  rw [dat.before_in_eq_fetched w hin hlive hclip (fun t => by
    rw [hafter, Window.cut_fill]; unfold Dat.blockOf iblk; rw [hA]) t d]
  unfold Dat.fetched Dat.blockOf fetched iblk; rw [hA]

theorem clip_0 (t t' : Fin (cfgA m).N) (h : ((cfgA m).win 0).index t = ((cfgA m).win 0).index t') :
    ((cfgA m).win 0).clip ((cfgA m).grid.coords t) = ((cfgA m).win 0).clip ((cfgA m).grid.coords t') :=
  funext fun a => congrArg (fun n => Pipeline.Clip.of n (S2560x256.size a) (S2560x151936.size a)) (congrFun h a)
theorem clip_1 (t t' : Fin (cfgA m).N) (h : ((cfgA m).win 1).index t = ((cfgA m).win 1).index t') :
    ((cfgA m).win 1).clip ((cfgA m).grid.coords t) = ((cfgA m).win 1).clip ((cfgA m).grid.coords t') :=
  funext fun a => congrArg (fun n => Pipeline.Clip.of n (S20x256.size a) (S20x151936.size a)) (congrFun h a)
theorem clip_4 (t t' : Fin (cfgA m).N) (h : ((cfgA m).win 4).index t = ((cfgA m).win 4).index t') :
    ((cfgA m).win 4).clip ((cfgA m).grid.coords t) = ((cfgA m).win 4).clip ((cfgA m).grid.coords t') :=
  funext fun a => congrArg (fun n => Pipeline.Clip.of n (S256x896.size a) (S151936x896.size a)) (congrFun h a)
theorem clip_5 (t t' : Fin (cfgA m).N) (h : ((cfgA m).win 5).index t = ((cfgA m).win 5).index t') :
    ((cfgA m).win 5).clip ((cfgA m).grid.coords t) = ((cfgA m).win 5).clip ((cfgA m).grid.coords t') :=
  funext fun a => congrArg (fun n => Pipeline.Clip.of n (S1x256.size a) (S1x151936.size a)) (congrFun h a)

/-- The body table's row at step `t` is the body on the staged blocks. -/
theorem defs₀_row (t : Fin (cfgA m).N) (s : (w : Fin 9) → Fin (spec0 w).nbuf) :
    defs₀ (F := F) .tc (cfgA m).body ((cfgA m).bodyArgs t s)
      = bodyOn (spec0_0.stage (s 0)) (hstage0_0 ((s 0).cast nbuf0_0)) (spec0_1.stage (s 1)) (hstage0_1 ((s 1).cast nbuf0_1))
        (spec0_2.stage (s 2)) (hstage0_2 ((s 2).cast nbuf0_2)) (spec0_3.stage (s 3)) (hstage0_3 ((s 3).cast nbuf0_3))
        (spec0_4.stage (s 4)) (hstage0_4 ((s 4).cast nbuf0_4)) (spec0_5.stage (s 5)) (hstage0_5 ((s 5).cast nbuf0_5))
        (spec0_6.stage (s 6)) (hstage0_6 ((s 6).cast nbuf0_6)) (spec0_7.stage (s 7)) (hstage0_7 ((s 7).cast nbuf0_7))
        (spec0_8.stage (s 8)) (hstage0_8 ((s 8).cast nbuf0_8)) (grid0.coords t) := by
  unfold defs₀; rw [Defs.onTc_tc]

end Cert.Proof.P

end
-- ==== Proof.P.Forget.lean ====
/-
  The kernel runs to the end without fault and leaves its arguments as they were: the region's proof data name what the input
  windows hold and leave the results open.
-/
module

public import proofs.«01_k».proof.Proof.P.Blocks
public import proofs.«01_k».proof.Proof.Gen.Kernel.Launch
public import Idealize.ShloMosaic.Lib.Pipeline.FrameBody
public import Idealize.ShloMosaic.Lib.Pipeline.FrameSuffix
public import Idealize.ShloMosaic.Lib.Claim

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two results' windows, of which these proof data say nothing. -/
abbrev outs : Fin 9 → Bool := fun | 0 => false | 1 => false | 2 => false | 3 => false | 4 => false | 5 => false | 6 => false | 7 => true | 8 => true

/-- The region's proof data: every window's array as the region finds it, every input left in place, what passes between
    steps with nothing said of the hidden states' gradient. -/
def datsF (_ : Fin 1) (c : Dev nD) : Dat τ (Elt F) Unit ℕ (UR sig nD τ) ℕ (cfgA m) c where
  A w := V m c (Pipeline.arrRef spec0 w)
  after w t := fetched m c w t (anyOf m w)
  Φ t := PhiAt m (fun _ _ => True) c t.val
  q _ := fullShare
  owed _ := 0

theorem datsF_A (c : Dev nD) (w : Fin (cfgA m).W) : (datsF m 0 c).A w = V m c (Pipeline.arrRef spec0 w) := by dsimp only [datsF]
theorem datsF_after (c : Dev nD) (w : Fin (cfgA m).W) (t) : (datsF m 0 c).after w t = fetched m c w t (anyOf m w) := by dsimp only [datsF]

theorem datsF_0 (c : Dev nD) (t d) : (datsF m 0 c).before 0 t d = fetched m c 0 t d :=
  before_of m _ 0 (datsF_A m c 0) (datsF_after m c 0) rfl (fun _ => rfl) (clip_0 m) t d
theorem datsF_1 (c : Dev nD) (t d) : (datsF m 0 c).before 1 t d = fetched m c 1 t d :=
  before_of m _ 1 (datsF_A m c 1) (datsF_after m c 1) rfl (fun _ => rfl) (clip_1 m) t d
theorem datsF_2 (c : Dev nD) (t d) : (datsF m 0 c).before 2 t d = (V m c main_v3 : Vec F S2560x896 .fp8e4m3) :=
  (before_of m _ 2 (datsF_A m c 2) (datsF_after m c 2) rfl (fun _ => rfl) (fun _ _ _ => rfl) t d).trans (fetched_2 m c t d)
theorem datsF_3 (c : Dev nD) (t d) : (datsF m 0 c).before 3 t d = (V m c main_v4 : Vec F S1x2560 .f32) :=
  (before_of m _ 3 (datsF_A m c 3) (datsF_after m c 3) rfl (fun _ => rfl) (fun _ _ _ => rfl) t d).trans (fetched_3 m c t d)
theorem datsF_4 (c : Dev nD) (t d) : (datsF m 0 c).before 4 t d = fetched m c 4 t d :=
  before_of m _ 4 (datsF_A m c 4) (datsF_after m c 4) rfl (fun _ => rfl) (clip_4 m) t d
theorem datsF_5 (c : Dev nD) (t d) : (datsF m 0 c).before 5 t d = fetched m c 5 t d :=
  before_of m _ 5 (datsF_A m c 5) (datsF_after m c 5) rfl (fun _ => rfl) (clip_5 m) t d
theorem datsF_6 (c : Dev nD) (t d) : (datsF m 0 c).before 6 t d = (V m c main_v6 : Vec F S2560x896 .bf16) :=
  (before_of m _ 6 (datsF_A m c 6) (datsF_after m c 6) rfl (fun _ => rfl) (fun _ _ _ => rfl) t d).trans (fetched_6 m c t d)

/-- The staging buffer of window `w` at step `t`. -/
abbrev stg (t : Fin (cfgA m).N) (w : Fin (cfgA m).W) := ((cfgA m).win w).stage ((cfgA m).slots t w)

/-- A window a transfer may cut, left as it was found, is left as the proof data ask. -/
theorem keep (c : Dev nD) (t : Fin (cfgA m).N) (w : Fin (cfgA m).W) (d X)
    (hX : X = fetched m c w t (anyOf m w)) :
    (owns (c : Thread nD τ) (stg m t w) fullShare (fetched m c w t d) : sProp 𝕄)
      ⊢ iprop(∃ d, owns (c : Thread nD τ) (stg m t w) fullShare (((cfgA m).win w).fill ((cfgA m).grid.coords t) d (((cfgA m).win w).cut ((cfgA m).grid.coords t) X))) := by
  subst hX
  rw [Window.cut_fill]
  iintro H; iexists d; iexact H

/-- What the body is called with at step `t`, window by window, -/
def preF (c : Dev nD) (t : Fin (cfgA m).N) : sProp 𝕄 :=
  iprop((datsF m 0 c).Φ t.castSucc ∗ (datsF m 0 c).owesAt () t.castSucc
    ∗ (∃ d, owns (c : Thread nD τ) (stg m t 0) fullShare ((datsF m 0 c).before 0 t d))
    ∗ (∃ d, owns (c : Thread nD τ) (stg m t 1) fullShare ((datsF m 0 c).before 1 t d))
    ∗ (∃ d, owns (c : Thread nD τ) (stg m t 2) fullShare ((datsF m 0 c).before 2 t d))
    ∗ (∃ d, owns (c : Thread nD τ) (stg m t 3) fullShare ((datsF m 0 c).before 3 t d))
    ∗ (∃ d, owns (c : Thread nD τ) (stg m t 4) fullShare ((datsF m 0 c).before 4 t d))
    ∗ (∃ d, owns (c : Thread nD τ) (stg m t 5) fullShare ((datsF m 0 c).before 5 t d))
    ∗ (∃ d, owns (c : Thread nD τ) (stg m t 6) fullShare ((datsF m 0 c).before 6 t d))
    ∗ (∃ X, owns (c : Thread nD τ) (stg m t 7) fullShare X)
    ∗ (∃ X, owns (c : Thread nD τ) (stg m t 8) fullShare X))

/-- and what it returns. -/
def postF (c : Dev nD) (t : Fin (cfgA m).N) : sProp 𝕄 :=
  iprop((datsF m 0 c).Φ t.succ ∗ (datsF m 0 c).owesAt () t.succ
    ∗ (∃ d, owns (c : Thread nD τ) (stg m t 0) fullShare (((cfgA m).win 0).fill ((cfgA m).grid.coords t) d (((cfgA m).win 0).cut ((cfgA m).grid.coords t) ((datsF m 0 c).after 0 t))))
    ∗ (∃ d, owns (c : Thread nD τ) (stg m t 1) fullShare (((cfgA m).win 1).fill ((cfgA m).grid.coords t) d (((cfgA m).win 1).cut ((cfgA m).grid.coords t) ((datsF m 0 c).after 1 t))))
    ∗ owns (c : Thread nD τ) (stg m t 2) fullShare ((datsF m 0 c).after 2 t)
    ∗ owns (c : Thread nD τ) (stg m t 3) fullShare ((datsF m 0 c).after 3 t)
    ∗ (∃ d, owns (c : Thread nD τ) (stg m t 4) fullShare (((cfgA m).win 4).fill ((cfgA m).grid.coords t) d (((cfgA m).win 4).cut ((cfgA m).grid.coords t) ((datsF m 0 c).after 4 t))))
    ∗ (∃ d, owns (c : Thread nD τ) (stg m t 5) fullShare (((cfgA m).win 5).fill ((cfgA m).grid.coords t) d (((cfgA m).win 5).cut ((cfgA m).grid.coords t) ((datsF m 0 c).after 5 t))))
    ∗ owns (c : Thread nD τ) (stg m t 6) fullShare ((datsF m 0 c).after 6 t)
    ∗ (∃ X, owns (c : Thread nD τ) (stg m t 7) fullShare X)
    ∗ (∃ X, owns (c : Thread nD τ) (stg m t 8) fullShare X))

/-- The body at any step. -/
theorem bodyF (c : Dev nD) (hv : InVocab (tbl m c)) (t : Fin (cfgA m).N) :
    preF m c t ⊢ wp frame (wpE (defs₀ (F := F)) 𝒱₀ (c : Thread nD τ) none) Set.univ
      (defs₀ (F := F) .tc (cfgA m).body ((cfgA m).bodyArgs t ((cfgA m).slots t))) (fun _ => postF m c t) := by
  rw [defs₀_row]
  unfold preF postF
  simp only [datsF_0, datsF_1, datsF_2, datsF_3, datsF_4, datsF_5, datsF_6]
  rw [show (datsF m 0 c).Φ t.castSucc = PhiAt m (fun _ _ => True) c t.val from rfl,
    show (datsF m 0 c).Φ t.succ = PhiAt m (fun _ _ => True) c (t.val + 1) from rfl,
    show (datsF m 0 c).owesAt () t.succ = (datsF m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  iapply (point m _ _ _ _ _ _ _ _ _ _ _ _ _ _ _ _ _ _ c (fetched m c 0 t d0) (fetched m c 1 t d1) (fetched m c 4 t d4) (fetched m c 5 t d5)
    hv (fun _ _ => True) t (fun _ _ => trivial) X7 X8 _)
  isplitr [Ho]
  · isplitl [HΦ]; · iexact HΦ
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  iintro ⟨HΦ, ⟨H0, H1, H2, H3, H4, H5, H6⟩, H7, ⟨%X, -, H8⟩⟩
  isplitl [HΦ]; · iexact HΦ
  isplitl [Ho]; · iexact Ho
  isplitl [H0]; · iapply (keep m c t 0 d0 _ (datsF_after m c 0 t)); iexact H0
  isplitl [H1]; · iapply (keep m c t 1 d1 _ (datsF_after m c 1 t)); iexact H1
  isplitl [H2]; · rw [datsF_after m c 2 t, fetched_2]; iexact H2
  isplitl [H3]; · rw [datsF_after m c 3 t, fetched_3]; iexact H3
  isplitl [H4]; · iapply (keep m c t 4 d4 _ (datsF_after m c 4 t)); iexact H4
  isplitl [H5]; · iapply (keep m c t 5 d5 _ (datsF_after m c 5 t)); iexact H5
  isplitl [H6]; · rw [datsF_after m c 6 t, fetched_6]; iexact H6
  isplitl [H7]; · iexists _; iexact H7
  iexists X; iexact H8

/-- The library's body obligation with the results forgotten. -/
theorem obligationF (c : Dev nD) (hv : InVocab (tbl m c)) : BodyObligationLoose (datsF (F := F) m 0 c) (defs₀ (F := F)) 𝒱₀ () Set.univ outs := fun t => by
  rw [bigSep_W0, bigSep_W0]
  exact triple_restated (bodyF m c hv t) rfl .rfl fun _ => .rfl

end Cert.Proof.P

end
-- ==== Proof.P.Frame.lean ====
/-
  The run of the kernel's @main with the results left open, and its frame.
-/
module

public import proofs.«01_k».proof.Proof.P.Forget
public import proofs.«01_k».proof.Proof.Gen.Kernel.Launch
public import Idealize.ShloMosaic.Lib.Pipeline.FrameBody
public import Idealize.ShloMosaic.Lib.Pipeline.FrameSuffix
public import Idealize.ShloMosaic.Lib.Claim

@[expose] public section

noncomputable section

namespace Cert.Proof.P

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer at known contents is the buffer's points-to. -/
theorem owns_whole (c : Thread nD τ) (b : Ref sig c.2.kind) (q) (X : b.ty.Contents (Elt F)) :
    (owns c (Memref.whole b) q X : sProp 𝕄) = ((c.loc b) ↦{q} X) := by
  rw [owns_whole_eq]
  refine equiv_iff.mp ⟨?_, ?_⟩
  · show iprop(∃ f : Buf (Elt F) (c.loc b), ⌜f = X⌝ ∗ ((c.loc b) ↦{q} f)) ⊢ _
    iintro ⟨%f, %hf, H⟩
    subst hf; iexact H
  · show _ ⊢ iprop(∃ f : Buf (Elt F) (c.loc b), ⌜f = X⌝ ∗ ((c.loc b) ↦{q} f))
    iintro H
    iexists X
    isplitr
    · ipureintro; rfl
    iexact H

/-- The table's half share, as the launch hands it over. -/
theorem table_eq (c : Dev nD) :
    (Pipeline.ΦT (U := UR sig nD τ) (τ := τ) pre0 (adm m 0).1 c : sProp 𝕄) = owns (c : Thread nD τ) (Memref.whole main_v0) fullShare.right (tbl m c) := by
  rw [owns_whole]
  show Pipeline.prefHeld pre0 c (fun _ => fullShare.right) (adm m 0).1 = _
  unfold Pipeline.prefHeld
  have hc : c = 0 := Subsingleton.elim _ _
  subst hc
  have : (Finset.univ : Finset (Fin pre0.K)) = {(0 : Fin 1)} := rfl
  rw [this, bigSep_singleton]
  rfl

/-- Entering the region: what the launch hands over is what precedes the first step. -/
theorem enter (P : ℕ → Vec F S896x2560 .f32 → Prop) (c : Dev nD) :
    iprop(Pipeline.ΦA (U := UR sig nD τ) (τ := τ) (Val := Elt F) spec0 c ∗ Pipeline.ΦT (U := UR sig nD τ) (τ := τ) pre0 (adm m 0).1 c) ⊢ PhiAt m P c 0 := by
  rw [table_eq, PhiAt_zero]
  unfold Pipeline.ΦA
  rw [scopedRest0_eq]
  simp only [owns_whole]
  iintro ⟨⟨⟨H0, H1, H2, H3, H4, H5⟩, Hp⟩, Ht⟩
  isplitl [Ht]; · iexact Ht
  isplitl [Hp]; · iexact Hp
  isplitl [H1]; · iexact H1
  isplitl [H0]; · iexact H0
  isplitl [H2]; · iexact H2
  isplitl [H3]; · iexact H3
  isplitl [H4]; · iexact H4
  iexact H5

/-- Leaving it. -/
theorem leave (P : ℕ → Vec F S896x2560 .f32 → Prop) (c : Dev nD) {t : ℕ} (ht : t ≠ 0) :
    PhiAt m P c t ⊢ Pipeline.ΦA (U := UR sig nD τ) (τ := τ) (Val := Elt F) spec0 c := by
  rw [PhiAt_pos m P c ht]
  unfold Pipeline.ΦA prepared
  rw [scopedRest0_eq]
  simp only [owns_whole]
  iintro ⟨-, Hp, H1, ⟨H0, H3, H4, H5⟩, ⟨%A, -, H2⟩⟩
  isplitr [Hp]
  · isplitl [H0]; · iexists _; iexact H0
    isplitl [H1]; · iexact H1
    isplitl [H2]; · iexists _; iexact H2
    isplitl [H3]; · iexists _; iexact H3
    isplitl [H4]; · iexists _; iexact H4
    iexists _; iexact H5
  iexact Hp

/-- The table's contents are those the region is launched at. -/
theorem table_at (c : Dev nD) (k : Fin pre0.K) : V0 m c (Proc.devRef .tc (pre0.ref k)) = (adm m 0).1 k := by
  have hc : c = 0 := Subsingleton.elim _ _
  subst hc; rfl

set_option backward.isDefEq.respectTransparency.types false in
/-- The run: every fair execution terminates without fault, the inputs' arrays are as the region found them, so is every other buffer but
    the reshaped second result, and every semaphore counter is zero. -/
theorem runF (hv : ∀ c, InVocab (tbl m c)) : θ_run (defs (F := F)) (onTc (τ := τ) (main (F := F))) (s₀ m ρ) (fun r =>
    Pipeline.RDat.FramePostR (cfgA m) (fun c => (datsF m 0 c).toRForget outs) {main_v8} (fun c b => V0 m c (Proc.devRef .tc b)) r ∧ r.2.sem = fun _ => 0) :=
  Pipeline.θ_run_frameP_around_T_track_forget (Q' := _) pcfgs (adm m) (datsF m) 0 launch0 defs₀ 𝒱₀ outs {main_v8} m ρ main
    (hbody := fun c => obligationF m c (hv c)) (hshare := fun c => (datsF m 0 c).share_full fun _ => rfl)
    (howed := fun _ _ => rfl) (V₀ := V0 m) (opss := [hostOps1]) (hsub := sfx_sub) (hfresh := sfx_fresh) (hkeep := sfx_keeps)
    (hT := sfx_writes) (hmain := hmain m) (hA := datsF_A m) (hpf := table_at m) (hin := enter m (fun _ _ => True)) (hout := fun c => leave m (fun _ _ => True) c (t := 594) (by decide))
    (hQ' := fun _ h => h)

/-- The table is the token ids, so the precondition bounds it. -/
theorem table_in_vocab (c : Dev nD) (h : ∀ j, (m ((c.tc : Thread nD τ).loc main_arg6) j : BitVec 32).toNat < 151936) : InVocab (tbl m c) :=
  fun n => h _

/-- The frame: the kernel runs to the end without fault, its arguments end unchanged and every counter ends at zero. -/
theorem frame (hv : ∀ c : Dev nD, ∀ j, (m ((c.tc : Thread nD τ).loc main_arg6) j : BitVec 32).toNat < 151936) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (runF m ρ fun c => table_in_vocab m c (hv c))
  obtain ⟨h, -⟩ := h
  have rest : ∀ b : Ref sig .tc, b ∈ Pipeline.restRefs sig spec0 \ {main_v8} → r.2.mem ((c.tc : Thread nD τ).loc b) = V0 m c (Proc.devRef .tc b) := (h c).2
  refine ⟨rest _ ?_, rest _ ?_, rest _ ?_, rest _ ?_, ?_, rest _ ?_, rest _ ?_, rest _ ?_⟩
  rotate_left 4
  · exact (Pipeline.RDat.FramePostR.arr_in h c 4 rfl).trans rfl
  all_goals exact Finset.mem_sdiff.mpr ⟨Pipeline.mem_restRefs_of _ (by decide) (by decide), by decide⟩

end Cert.Proof.P

end
-- ==== Proof.PI.Sem.lean ====
/-
  What one grid step computes, as whole-shape functions of the blocks it reads: the decoded hidden states (`HT`), the
  decoded and masked block of logit gradients (`DL`), the tile of token gradients added to the tile's product (`tileOf`),
  the words of the token lists.
-/
module

public import proofs.«01_k».proof.Proof.Gen.KernelIdeal.Skeleton
public import proofs.«01_k».proof.Proof.Own
public import proofs.«01_k».proof.Proof.Chain
public import Idealize.ShloMosaic.Lib.Pipeline.Value

@[expose] public section

noncomputable section

namespace Cert.Proof.PI

open Cert.KernelIdeal Cert.KernelIdeal.Gen
open Idealize.ShloMosaic Idealize.ShloMosaic.TcCoe
open Cert.Proof.Own Cert.Proof.Chain

variable {F : FTy → Type} [FloatOps F]

/-- The decoded hidden states, transposed. -/
def HT (X4 : Vec F S2560x896 .fp8e4m3) (X5 : Vec F S1x2560 .f32) : Vec F S896x2560 .bf16 := fun y =>
  FloatOps.mulf (FloatOps.extf .bf16 (by decide) (X4 (ix (y 1) (y 0)))) (FloatOps.truncf .bf16 (by decide) (X5 (ix 0 (y 1))))

/-- One decoded logit gradient: code times scale, both zero where the mask is off. -/
def dlEl (b : BitVec 1) (code : F .fp8e5m2) (s : F .f32) : F .bf16 :=
  FloatOps.mulf (FloatOps.extf .bf16 (by decide) (Scalar.select b code (Scalar.ofBits .fp8e5m2 0x00#8)))
    (FloatOps.truncf .bf16 (by decide) (Scalar.select b s (Scalar.ofBits .f32 0x00000000#32)))

/-- The decoded block of logit gradients under the mask `v7` of the columns inside the vocabulary. -/
def DL (v7 : IVec S1x256 1) (X2 : Vec F S2560x256 .fp8e5m2) (X3 : Vec F S20x256 .f32) : Vec F S2560x256 .bf16 := fun y =>
  dlEl (v7 (ix 0 (y 1))) (X2 y) (X3 (ix ⟨(y 0).val / 128, Nat.div_lt_of_lt_mul (y 0).isLt⟩ (y 1)))

/-- The gradient of the hidden states, transposed back and rounded. -/
def DH (X13 : Vec F S896x2560 .f32) : Vec F S2560x896 .bf16 := fun y =>
  FloatOps.truncf .bf16 (by decide) (X13 (ix (y 1) (y 0)))

/-- The tile of token `n`. -/
def tileNo (tbl : Vec F S2560 .i32) (n : ℕ) : ℕ :=
  if h : n < 2560 then BitVec.toNat (tbl (ix1 ⟨n, h⟩) : BitVec 32) / 256 else 0

/-- Adding token `n`'s row to its row of the tile. -/
def addRow (tbl : Vec F S2560 .i32) (X14 : Vec F S2560x896 .f32) (n : ℕ) (X : Vec F S256x896 .f32) : Vec F S256x896 .f32 := fun y =>
  if h : n < 2560 then
    if (y 0).val = BitVec.toNat (tbl (ix1 ⟨n, h⟩) : BitVec 32) % 256 then FloatOps.addf (X y) (X14 (ix ⟨n, h⟩ (y 1))) else X y
  else X y

/-- The tile `v` of the embedding's gradient: the product and, added to it, the rows of the tile's tokens. -/
def tileOf (tbl : Vec F S2560 .i32) (X14 : Vec F S2560x896 .f32) (v : ℕ) (X : Vec F S256x896 .f32) : Vec F S256x896 .f32 :=
  walk (tileNo tbl) v (addRow tbl X14) 2560 X

/-- The lists' heads after `n` tokens. -/
def headAt (tbl : Vec F S2560 .i32) (n : ℕ) : Vec F S594 .i32 := fun y => enc (last (tileNo tbl) n (y 0).val)

/-- The tokens' successors in their lists. -/
def nextOf (tbl : Vec F S2560 .i32) : Vec F S2560 .i32 := fun y => enc (last (tileNo tbl) (y 0).val (tileNo tbl (y 0).val))

/-- Agreement on the columns below `n`. -/
def EqCols {α : Type} (n : ℕ) (X G : S896x2560.Idx → α) : Prop := ∀ y, (y 1).val < n → X y = G y
/-- Agreement on the rows below `n`, of a block of 256 columns. -/
def EqRows {α : Type} (n : ℕ) (X G : S2560x256.Idx → α) : Prop := ∀ y, (y 0).val < n → X y = G y
/-- Agreement on the rows below `n`, of a block of 896 columns. -/
def EqRows' {α : Type} (n : ℕ) (X G : S2560x896.Idx → α) : Prop := ∀ y, (y 0).val < n → X y = G y

/-- A chunk of 256 columns of the hidden states, stored: the agreement reaches 256 columns further. -/
theorem ht_step {X4 : Vec F S2560x896 .fp8e4m3} {X5 : Vec F S1x2560 .f32} {X11 : Vec F S896x2560 .bf16} (o : ℕ)
    {i1 i2 i3} {w : Vec F S896x256 .bf16}
    (hw : w = k0_pay7 (fun x => X4 ((Rect.unit (s := S2560x896) ![o, 0] S256x896.size i1).emb x))
      (fun x => X5 ((Rect.unit (s := S1x2560) ![0, o] S1x256.size i2).emb x)))
    (h : EqCols o X11 (HT X4 X5)) :
    EqCols (o + 256) (put (Rect.unit (s := S896x2560) ![0, o] S896x256.size i3) X11 w) (HT X4 X5) := by
  intro y hy
  by_cases hm : y ∈ (Rect.unit (s := S896x2560) ![0, o] S896x256.size i3).set
  · obtain ⟨x, rfl⟩ := exists_emb _ hm
    erw [put_emb]
    subst hw
    unfold k0_pay7 HT
    simp only [Idealize.ShloMosaic.shapeCast_self]
    show FloatOps.mulf (FloatOps.extf _ _ (X4 _)) (FloatOps.truncf _ _ (X5 _)) = _
    congr 2
    · refine congrArg X4 (funext fun a => Fin.ext ?_)
      fin_cases a
      · rfl
      · rfl
    · refine congrArg X5 (funext fun a => Fin.ext ?_)
      fin_cases a
      · rfl
      · rfl
  · rw [put_of_not_mem _ _ _ hm]
    refine h y ?_
    by_contra hlt
    refine hm (Rect.mem_set_unit.2 fun a => ?_)
    fin_cases a
    · exact ⟨Nat.zero_le _, by simpa using (y 0).isLt⟩
    · exact ⟨by simpa using hlt, by simpa using hy⟩

/-- A run of 128 rows of logit gradients, stored: the agreement reaches 128 rows further. -/
theorem dl_step {v7 : IVec S1x256 1} {X2 : Vec F S2560x256 .fp8e5m2} {X3 : Vec F S20x256 .f32} {X12 : Vec F S2560x256 .bf16} (k o : ℕ)
    (ho : o = 128 * k) {i1 i2 i3} {w : Vec F S128x256 .bf16}
    (hw : w = k0_pay32 v7 (fun x => X2 ((Rect.unit (s := S2560x256) ![o, 0] S128x256.size i1).emb x))
      (fun x => X3 ((Rect.unit (s := S20x256) ![k, 0] S1x256.size i2).emb x)))
    (h : EqRows o X12 (DL v7 X2 X3)) :
    EqRows (o + 128) (put (Rect.unit (s := S2560x256) ![o, 0] S128x256.size i3) X12 w) (DL v7 X2 X3) := by
  intro y hy
  by_cases hm : y ∈ (Rect.unit (s := S2560x256) ![o, 0] S128x256.size i3).set
  · obtain ⟨x, rfl⟩ := exists_emb _ hm
    erw [put_emb]
    subst hw
    unfold k0_pay32 DL dlEl
    simp only [Idealize.ShloMosaic.shapeCast_self]
    show FloatOps.mulf (FloatOps.extf _ _ (Scalar.select (v7 _) (X2 _) _)) (FloatOps.truncf _ _ (Scalar.select (v7 _) (X3 _) _)) = _
    have h7 : ∀ j : S1x256.Idx, (j 1).val = (x 1).val → v7 j = v7 (ix 0 (((Rect.unit (s := S2560x256) ![o, 0] S128x256.size i3).emb x) 1)) := fun j hj =>
      congrArg v7 (funext fun a => Fin.ext (by
        fin_cases a
        · have := (j 0).isLt
          show (j 0).val = 0
          change (j 0).val < 1 at this
          omega
        · show (j 1).val = 0 + 1 * (x 1).val; omega))
    congr 2
    · congr 1
      exact h7 _ rfl
    · congr 1
      · exact h7 _ rfl
      · refine congrArg X3 (funext fun a => Fin.ext ?_)
        fin_cases a
        · have hx : (x 0).val < 128 := (x 0).isLt
          show k + 1 * 0 = (o + 1 * (x 0).val) / 128
          omega
        · rfl
  · rw [put_of_not_mem _ _ _ hm]
    refine h y ?_
    by_contra hlt
    refine hm (Rect.mem_set_unit.2 fun a => ?_)
    fin_cases a
    · exact ⟨by simpa using hlt, by simpa using hy⟩
    · exact ⟨Nat.zero_le _, by simpa using (y 1).isLt⟩

/-- A chunk of 256 rows of the hidden states' gradient, stored: the agreement reaches 256 rows further. -/
theorem dh_step {X13 : Vec F S896x2560 .f32} {X10 : Vec F S2560x896 .bf16} (o : ℕ) {i1 i3} {w : Vec F S256x896 .bf16}
    (hw : w = k0_pay3 (fun x => X13 ((Rect.unit (s := S896x2560) ![0, o] S896x256.size i1).emb x)))
    (h : EqRows' o X10 (DH X13)) :
    EqRows' (o + 256) (put (Rect.unit (s := S2560x896) ![o, 0] S256x896.size i3) X10 w) (DH X13) := by
  intro y hy
  by_cases hm : y ∈ (Rect.unit (s := S2560x896) ![o, 0] S256x896.size i3).set
  · obtain ⟨x, rfl⟩ := exists_emb _ hm
    erw [put_emb]
    subst hw
    unfold k0_pay3 DH
    show FloatOps.truncf _ _ (X13 _) = FloatOps.truncf _ _ (X13 _)
    congr 1
    refine congrArg X13 (funext fun a => Fin.ext ?_)
    fin_cases a
    · rfl
    · rfl
  · rw [put_of_not_mem _ _ _ hm]
    refine h y ?_
    by_contra hlt
    refine hm (Rect.mem_set_unit.2 fun a => ?_)
    fin_cases a
    · exact ⟨by simpa using hlt, by simpa using hy⟩
    · exact ⟨Nat.zero_le _, by simpa using (y 1).isLt⟩

end Cert.Proof.PI

end
-- ==== Proof.PI.Loops.lean ====
/-
  The two counted loops of the first step: every list's head cleared, then each token put in front of its tile's list.
  The offsets and words are read off the integer operations; the ids are inside the vocabulary, so every tile is.
-/
module

public import proofs.«01_k».proof.Proof.PI.Sem
public import Idealize.ShloMosaic.Lib.Scf

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

/-- The label's loop is ranked by a natural number. -/
abbrev 𝒱₀ : Variants := Variants.nat

theorem t1_trips : k0_t1_loop.trips = 594 := by decide
theorem t2_trips : k0_t2_loop.trips = 2560 := by decide

/-- The ids of a table inside the vocabulary. -/
def InVocab (tbl : Vec F S2560 .i32) : Prop := ∀ n : Fin 2560, BitVec.toNat (tbl (ix1 n) : BitVec 32) < 151936

theorem tileNo_eq (tbl : Vec F S2560 .i32) (n : Fin 2560) : tileNo tbl n.val = BitVec.toNat (tbl (ix1 n) : BitVec 32) / 256 := by
  unfold tileNo
  rw [dif_pos n.isLt]

theorem tileNo_lt {tbl : Vec F S2560 .i32} (hv : InVocab tbl) (n : Fin 2560) : tileNo tbl n.val < 594 := by
  rw [tileNo_eq]
  have := hv n
  omega

/-- A shift by eight is the tile. -/
theorem off3_eq {v : BitVec 32} : k0_off3 v = ![v.toNat / 256] := by
  unfold k0_off3
  simp only [Scalar.indexCast]
  have h : (Scalar.shrui v 8#32).toNat = v.toNat / 256 := by
    show (IntOp.shrui .scalar v 8#32).toNat = _
    unfold IntOp.shrui
    rw [if_pos (by decide)]
    show (v >>> (8 : ℕ)).toNat = _
    rw [BitVec.toNat_ushiftRight, Nat.shiftRight_eq_div_pow]
  rw [h]

theorem chk1_of (i : grid0.Coords) {v : BitVec 32} (h : v.toNat < 151936) : k0_chk1 i v := fun _ a => by
  fin_cases a
  show k0_off3 v 0 + 1 ≤ 594
  rw [off3_eq]
  show v.toNat / 256 + 1 ≤ 594
  omega

/-- The word of the second loop's counter. -/
theorem word_iv (k : ℕ) : Scalar.addi 0#32 (Scalar.muli (Scf.iv 0#32 1#32 k) 1#32) = BitVec.ofNat 32 k := by
  show 0#32 + (0#32 + BitVec.ofNat 32 k * 1#32) * 1#32 = _
  simp

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD)

/-- The heads below `k` cleared. -/
def heads0 (k : ℕ) : sProp 𝕄 :=
  iprop(∃ X, ⌜∀ y, (y 0).val < k → X y = (4294967295#32 : BitVec 32)⌝ ∗ owns (c : Thread nD τ) arg15 fullShare X)

theorem t1_trip (h1 : k0_cond1 i = 1#1) (k : Fin k0_t1_loop.trips) (acc : Unit) :
    (heads0 arg15 c k.val : sProp 𝕄)
      ⊢ wp frame (wpE (defs₀ (F := F)) 𝒱₀ (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 k acc)
          fun _ => heads0 arg15 c (k.val + 1) := by
  unfold k0_t1_body heads0
  simp only [Prog.lift, Prog.bind_op, Prog.bind_ret, Prog.pure_eq_ret]
  iintro ⟨%X, %hX, H⟩
  iapply (Own.loadWord 𝒱₀ (c : Thread nD τ) none Set.univ (m := arg15) ⟨k.val, t1_trips ▸ k.isLt⟩ (by rw [k0_off1_eq]; rfl)) $$ H; iintro H
  iapply (Own.store 𝒱₀ (c : Thread nD τ) none Set.univ (m := arg15)) $$ H; iintro H
  rw [wp_ret]; imodintro
  iexists _
  isplitr
  swap
  · iexact H
  · ipureintro
    intro y hy
    refine (put_one _ X _ y).trans ?_
    rw [k0_off1_eq]
    split_ifs with h
    · rfl
    · refine hX y ?_
      change ¬(y 0).val = k.val at h
      omega

/-- The lists after `k` tokens. -/
def listsAt (tbl : Vec F S2560 .i32) (q : PosShare TreeShare) (k : ℕ) : sProp 𝕄 :=
  iprop(owns (c : Thread nD τ) arg1 q tbl ∗ owns (c : Thread nD τ) arg15 fullShare (headAt tbl k)
    ∗ ∃ X, ⌜∀ y, (y 0).val < k → X y = nextOf tbl y⌝ ∗ owns (c : Thread nD τ) arg16 fullShare X)

theorem t2_trip {tbl : Vec F S2560 .i32} (hv : InVocab tbl) (q : PosShare TreeShare) (h1 : k0_cond1 i = 1#1) (k : Fin k0_t2_loop.trips) (acc : Unit) :
    (listsAt arg1 arg15 arg16 c tbl q k.val : sProp 𝕄)
      ⊢ wp frame (wpE (defs₀ (F := F)) 𝒱₀ (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 k acc)
          fun _ => listsAt arg1 arg15 arg16 c tbl q (k.val + 1) := by
  have hk : k.val < 2560 := t2_trips ▸ k.isLt
  unfold k0_t2_body listsAt
  simp only [Prog.lift, Prog.bind_op, Prog.bind_ret, Prog.pure_eq_ret]
  iintro ⟨H1, H15, %X, %hX, H16⟩
  have ht := tileNo_lt hv ⟨k.val, hk⟩
  have hte := tileNo_eq tbl ⟨k.val, hk⟩
  have hte' : tileNo tbl k.val = BitVec.toNat (tbl (ix1 ⟨k.val, hk⟩) : BitVec 32) / 256 := hte
  iapply (Own.loadWord 𝒱₀ (c : Thread nD τ) none Set.univ (m := arg1) ⟨k.val, hk⟩ (by rw [k0_off2_eq]; rfl)) $$ H1; iintro H1
  iapply (wp_assume 𝒱₀ (c : Thread nD τ) none Set.univ (chk1_of i (hv ⟨k.val, hk⟩)))
  iapply (Own.loadWord 𝒱₀ (c : Thread nD τ) none Set.univ (m := arg15) ⟨tileNo tbl k.val, ht⟩ (by rw [off3_eq]; exact hte.symm)) $$ H15; iintro H15
  iapply (Own.loadWord 𝒱₀ (c : Thread nD τ) none Set.univ (m := arg16) ⟨k.val, hk⟩ (by rw [k0_off4_eq]; rfl)) $$ H16; iintro H16
  iapply (Own.store 𝒱₀ (c : Thread nD τ) none Set.univ (m := arg16)) $$ H16; iintro H16
  iapply (Own.loadWord 𝒱₀ (c : Thread nD τ) none Set.univ (m := arg15) ⟨tileNo tbl k.val, ht⟩ (by rw [off3_eq]; exact hte.symm)) $$ H15; iintro H15
  iapply (Own.store 𝒱₀ (c : Thread nD τ) none Set.univ (m := arg15)) $$ H15; iintro H15
  rw [wp_ret]; imodintro
  have hh : ∀ y, put (Rect.unit (s := S594) (k0_off3 (tbl (ix1 ⟨k.val, hk⟩))) S1.size (k0_off3_inb i _ (chk1_of i (hv ⟨k.val, hk⟩)) h1)) (headAt tbl k.val)
      (fun _ => Scalar.addi 0#32 (Scalar.muli (Scf.iv 0#32 1#32 k.val) 1#32)) y = headAt tbl (k.val + 1) y := by
    intro y
    refine (put_one _ _ _ y).trans ?_
    rw [off3_eq, word_iv]
    unfold headAt
    by_cases h : tileNo tbl k.val = (y 0).val
    · rw [last_self h]; exact if_pos (h.symm.trans hte')
    · rw [last_other h]; exact if_neg fun h' => h (hte'.trans h'.symm)
  isplitl [H1]; · iexact H1
  isplitl [H15]
  · rw [← funext hh]; iexact H15
  iexists _
  isplitr
  swap
  · iexact H16
  · ipureintro
    intro y hy
    refine (put_one _ X _ y).trans ?_
    rw [k0_off4_eq]
    split_ifs with h
    · unfold headAt nextOf
      change (y 0).val = k.val at h
      rw [h]; rfl
    · refine hX y ?_
      change ¬(y 0).val = k.val at h
      omega

end Cert.Proof.PI

end
-- ==== Proof.PI.While.lean ====
/-
  The walk down one tile's list: the label's specification and its body's proof. From the word of the list's first token
  below `n`, the rows of the list's tokens below `n` are added to their rows of the tile, the last token first; the walk is
  ranked by `n`, since each token's successor lies below it.
-/
module

public import proofs.«01_k».proof.Proof.PI.Loops
public import Idealize.ShloMosaic.Lib.Tactic

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

theorem off6_eq {n : ℕ} (h : n < 2560) : k0_off6 (BitVec.ofNat 32 n) = ![n] := by
  unfold k0_off6
  simp only [Scalar.indexCast, BitVec.toNat_ofNat]
  rw [Nat.mod_eq_of_lt (by omega)]

theorem off9_eq {n : ℕ} (h : n < 2560) : k0_off9 (BitVec.ofNat 32 n) = ![n] := off6_eq h

theorem off8_eq {n : ℕ} (h : n < 2560) : k0_off8 (BitVec.ofNat 32 n) = ![n, 0] := by
  unfold k0_off8
  simp only [Scalar.indexCast, BitVec.toNat_ofNat]
  rw [Nat.mod_eq_of_lt (by omega)]

/-- The row of an id in its own tile. -/
theorem off7_eq (i : grid0.Coords) {v : BitVec 32} (hv : v.toNat < 151936) (h : v.toNat / 256 = (i 0).val) : k0_off7 i v = ![v.toNat % 256, 0] := by
  have hi : (i 0).val < 594 := (i 0).isLt
  unfold k0_off7
  simp only [Scalar.indexCast]
  have e : (Scalar.subi v (Scalar.muli (BitVec.ofNat 32 (i 0).val) 256#32)).toNat = v.toNat % 256 := by
    show (v - BitVec.ofNat 32 (i 0).val * 256#32).toNat = _
    rw [BitVec.toNat_sub, BitVec.toNat_mul, BitVec.toNat_ofNat, BitVec.toNat_ofNat]
    rw [Nat.mod_eq_of_lt (a := (i 0).val) (by omega), Nat.mod_eq_of_lt (a := 256) (by omega), Nat.mod_eq_of_lt (a := (i 0).val * 256) (by omega)]
    omega
  rw [e]

theorem chk2_of {n : ℕ} (h : n < 2560) : k0_chk2 (BitVec.ofNat 32 n) := by
  refine ⟨fun a => ?_, fun a => ?_, fun a => ?_⟩
  · rw [off6_eq h]; fin_cases a; show n + 1 ≤ 2560; omega
  · rw [off8_eq h]; fin_cases a
    · show n + 1 ≤ 2560; omega
    · show 0 + 896 ≤ 896; omega
  · rw [off9_eq h]; fin_cases a; show n + 1 ≤ 2560; omega

theorem chk3_of (i : grid0.Coords) {v : BitVec 32} (hv : v.toNat < 151936) (h : v.toNat / 256 = (i 0).val) : k0_chk3 i v := fun a => by
  rw [off7_eq i hv h]
  fin_cases a
  · show v.toNat % 256 + 1 ≤ 256; omega
  · show 0 + 896 ≤ 896; omega

/-- The store of a token's row is the addition of the row. -/
theorem put_row (tbl : Vec F S2560 .i32) (X14 : Vec F S2560x896 .f32) (X : Vec F S256x896 .f32) (n : Fin 2560) {o7 o8 : Fin 2 → ℕ}
    (h7 : o7 = ![BitVec.toNat (tbl (ix1 n) : BitVec 32) % 256, 0]) (h8 : o8 = ![n.val, 0]) (i7 i8) :
    put (Rect.unit (s := S256x896) o7 S1x896.size i7) X
      (k0_pay6 (fun x => X ((Rect.unit (s := S256x896) o7 S1x896.size i7).emb x))
        (fun x => X14 ((Rect.unit (s := S2560x896) o8 S1x896.size i8).emb x)))
      = addRow tbl X14 n.val X := by
  subst h7 h8
  funext y
  unfold addRow
  rw [dif_pos n.isLt]
  by_cases h : (y 0).val = BitVec.toNat (tbl (ix1 n) : BitVec 32) % 256
  · rw [if_pos h]
    have hy : (Rect.unit (s := S256x896) ![BitVec.toNat (tbl (ix1 n) : BitVec 32) % 256, 0] S1x896.size i7).emb (ix (m := 1) (n := 896) 0 (y 1)) = y := by
      refine funext fun a => Fin.ext ?_
      fin_cases a
      · show BitVec.toNat (tbl (ix1 n) : BitVec 32) % 256 + 1 * 0 = (y 0).val
        omega
      · show 0 + 1 * (y 1).val = (y 1).val
        omega
    conv_lhs => rw [← hy]
    refine (put_emb _ _ _ _).trans ?_
    unfold k0_pay6
    simp only [Idealize.ShloMosaic.shapeCast_self]
    show FloatOps.addf (X _) (X14 _) = _
    rw [hy]
    congr 1
    refine congrArg X14 (ix_eq _ _ _ ?_ ?_)
    · show n.val + 1 * 0 = n.val; omega
    · show 0 + 1 * (y 1).val = (y 1).val; omega
  · rw [if_neg h]
    refine put_of_not_mem _ _ _ fun hm => h ?_
    have := Rect.mem_set_unit.1 hm 0
    change BitVec.toNat (tbl (ix1 n) : BitVec 32) % 256 ≤ (y 0).val ∧ (y 0).val < BitVec.toNat (tbl (ix1 n) : BitVec 32) % 256 + 1 at this
    omega

section Label

variable (i : grid0.Coords)
  (arg1 : Memref sig .tc .smem S2560 .i32) (harg1 : arg1.IsWhole)
  (arg9 : Memref sig .tc .vmem S256x896 .f32) (harg9 : arg9.IsWhole)
  (arg14 : Memref sig .tc .vmem S2560x896 .f32) (harg14 : arg14.IsWhole)
  (arg16 : Memref sig .tc .smem S2560 .i32) (harg16 : arg16.IsWhole)
  (c : Dev nD) (tbl : Vec F S2560 .i32) (X14 : Vec F S2560x896 .f32) (q : PosShare TreeShare)

/-- What the walk holds: the ids, the rows, the successors, and the tile at `X`. -/
def walkHeld (X : Vec F S256x896 .f32) : sProp 𝕄 :=
  iprop(owns (c : Thread nD τ) arg1 q tbl ∗ owns (c : Thread nD τ) arg9 fullShare X ∗ owns (c : Thread nD τ) arg14 fullShare X14
    ∗ owns (c : Thread nD τ) arg16 fullShare (nextOf tbl))

/-- The walk from the tokens below `n`. -/
def walkSpec (v n : ℕ) (X : Vec F S256x896 .f32) : sWPT 𝕄 (BitVec 32) := do
  sWPT.consume (walkHeld arg1 arg9 arg14 arg16 c tbl X14 q X)
  let r ← sWPT.arbitrary
  sWPT.produce (walkHeld arg1 arg9 arg14 arg16 c tbl X14 q (walk (tileNo tbl) v (addRow tbl X14) n X))
  pure r

theorem walkSpec_apply (v n : ℕ) (X : Vec F S256x896 .f32) (K : BitVec 32 → sProp 𝕄) :
    walkSpec arg1 arg9 arg14 arg16 c tbl X14 q v n X K
      = iprop(walkHeld arg1 arg9 arg14 arg16 c tbl X14 q X
        ∗ ∀ r : BitVec 32, walkHeld arg1 arg9 arg14 arg16 c tbl X14 q (walk (tileNo tbl) v (addRow tbl X14) n X) -∗ K r) := rfl

theorem walk_le (hv : InVocab tbl) (E : Set ℕ) (n : ℕ) : n ≤ 2560 → ∀ (k : ℕ), n ≤ k → ∀ X K,
    (walkSpec arg1 arg9 arg14 arg16 c tbl X14 q (i 0).val n X K : sProp 𝕄)
      ⊢ wp frame (wpE (defs₀ (F := F)) 𝒱₀ (c : Thread nD τ) (some k)) E
          (defs₀ (F := F) .tc 1 ⟨i, arg1, harg1, arg9, harg9, arg14, harg14, arg16, harg16, enc (last (tileNo tbl) n (i 0).val)⟩) K := by
  induction n with
  | zero =>
    intro _ k _ X K
    rw [walkSpec_apply]
    show _ ⊢ wp frame (wpE (defs₀ (F := F)) 𝒱₀ (c : Thread nD τ) (some k)) E
      (cc0_while1 i arg1 harg1 arg9 harg9 arg14 harg14 arg16 harg16 (enc none)) K
    unfold cc0_while1
    simp only [sge_none, ↓reduceIte, Prog.pure_eq_ret]
    iintro ⟨H, Hk⟩
    rw [wp_ret]; imodintro
    iapply Hk
    rw [walk_zero]
    iexact H
  | succ n ih =>
    intro hn k hk X K
    by_cases ht : tileNo tbl n = (i 0).val
    swap
    · rw [last_other ht]
      have := ih (by omega) k (by omega) X K
      rw [walkSpec_apply] at this ⊢
      rw [walk_other ht]
      exact this
    have hn' : n < 2560 := by omega
    have hT := tileNo_eq tbl ⟨n, hn'⟩
    have hT' : BitVec.toNat (tbl (ix1 ⟨n, hn'⟩) : BitVec 32) / 256 = (i 0).val := hT.symm.trans ht
    rw [last_self ht, walkSpec_apply]
    show _ ⊢ wp frame (wpE (defs₀ (F := F)) 𝒱₀ (c : Thread nD τ) (some k)) E
      (cc0_while1 i arg1 harg1 arg9 harg9 arg14 harg14 arg16 harg16 (enc (some n))) K
    simp only [cc0_while1_eq_skeleton]; unfold cc0_while1_skel
    simp only [sge_some hn', ↓reduceIte, Prog.lift, Prog.bind_op, Prog.bind_ret, Prog.pure_eq_ret]
    unfold walkHeld
    iintro ⟨⟨H1, H9, H14, H16⟩, Hk⟩
    iapply (wp_assume 𝒱₀ (c : Thread nD τ) (some k) E (chk2_of hn'))
    iapply (Own.loadWord 𝒱₀ (c : Thread nD τ) (some k) E (m := arg1) ⟨n, hn'⟩ (congrFun (off6_eq hn') 0)) $$ H1; iintro H1
    iapply (wp_assume 𝒱₀ (c : Thread nD τ) (some k) E (chk3_of i (hv ⟨n, hn'⟩) hT'))
    iapply (Own.load 𝒱₀ (c : Thread nD τ) (some k) E (m := arg9)) $$ H9; iintro H9
    iapply (Own.load 𝒱₀ (c : Thread nD τ) (some k) E (m := arg14)) $$ H14; iintro H14
    iapply (Own.load 𝒱₀ (c : Thread nD τ) (some k) E (m := arg9)) $$ H9; iintro H9
    iapply (Own.store 𝒱₀ (c : Thread nD τ) (some k) E (m := arg9)) $$ H9; iintro H9
    iapply (Own.loadWord 𝒱₀ (c : Thread nD τ) (some k) E (m := arg16) ⟨n, hn'⟩ (congrFun (off9_eq hn') 0)) $$ H16; iintro H16
    have hnext : nextOf tbl (ix1 ⟨n, hn'⟩) = enc (last (tileNo tbl) n (i 0).val) := by
      unfold nextOf
      show enc (last (tileNo tbl) n (tileNo tbl n)) = _
      rw [ht]
    rw [hnext]
    iapply (wp_call_spec 𝒱₀ (c : Thread nD τ) (some k) E (walkSpec arg1 arg9 arg14 arg16 c tbl X14 q (i 0).val n (addRow tbl X14 n X)) n
      (fun u hu => by cases hu; exact Nat.lt_of_succ_le hk)
      (ih (by omega) n le_rfl (addRow tbl X14 n X)))
    rw [walkSpec_apply, walk_self ht]; unfold walkHeld
    isplitl [H1 H9 H14 H16]
    · isplitl [H1]; · iexact H1
      isplitl [H9]
      · rw [← put_row tbl X14 X ⟨n, hn'⟩ (off7_eq i (hv ⟨n, hn'⟩) hT') (off8_eq hn') (k0_off7_inb i _ (chk3_of i (hv ⟨n, hn'⟩) hT')) (k0_off8_inb _ (chk2_of hn'))]
        iexact H9
      isplitl [H14]; · iexact H14
      iexact H16
    iintro %r ⟨H1, H9, H14, H16⟩
    rw [wp_ret]; imodintro
    iapply Hk
    isplitl [H1]; · iexact H1
    isplitl [H9]; · iexact H9
    isplitl [H14]; · iexact H14
    iexact H16

end Label

end Cert.Proof.PI

end
-- ==== Proof.PI.Parts.lean ====
/-
  The decoding of the block of logit gradients, run by run, and of the hidden states, chunk by chunk: each part of the body
  extends the agreement of the scratch with the whole block's decoding.
-/
module

public import proofs.«01_k».proof.Proof.PI.While

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

/-- The 128 rows from `o` of the codes. -/
abbrev rows2 (X2 : Vec F S2560x256 .fp8e5m2) (o : ℕ) (h : ∀ a, (![o, 0] : Fin 2 → ℕ) a + S128x256.size a ≤ S2560x256.size a := by decide) :
    Vec F S128x256 .fp8e5m2 := fun x => X2 ((Rect.unit (s := S2560x256) ![o, 0] S128x256.size h).emb x)
/-- Row `k` of the scales. -/
abbrev row3 (X3 : Vec F S20x256 .f32) (k : ℕ) (h : ∀ a, (![k, 0] : Fin 2 → ℕ) a + S1x256.size a ≤ S20x256.size a := by decide) :
    Vec F S1x256 .f32 := fun x => X3 ((Rect.unit (s := S20x256) ![k, 0] S1x256.size h).emb x)
/-- The 256 rows from `o` of the hidden states' codes. -/
abbrev rows4 (X4 : Vec F S2560x896 .fp8e4m3) (o : ℕ) (h : ∀ a, (![o, 0] : Fin 2 → ℕ) a + S256x896.size a ≤ S2560x896.size a := by decide) :
    Vec F S256x896 .fp8e4m3 := fun x => X4 ((Rect.unit (s := S2560x896) ![o, 0] S256x896.size h).emb x)
/-- The 256 scales from `o`. -/
abbrev cols5 (X5 : Vec F S1x2560 .f32) (o : ℕ) (h : ∀ a, (![0, o] : Fin 2 → ℕ) a + S1x256.size a ≤ S1x2560.size a := by decide) :
    Vec F S1x256 .f32 := fun x => X5 ((Rect.unit (s := S1x2560) ![0, o] S1x256.size h).emb x)
/-- The 256 columns from `o` of the accumulator. -/
abbrev cols13 (X13 : Vec F S896x2560 .f32) (o : ℕ) (h : ∀ a, (![0, o] : Fin 2 → ℕ) a + S896x256.size a ≤ S896x2560.size a := by decide) :
    Vec F S896x256 .f32 := fun x => X13 ((Rect.unit (s := S896x2560) ![0, o] S896x256.size h).emb x)

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (v7 : IVec S1x256 1) (X2 : Vec F S2560x256 .fp8e5m2) (X3 : Vec F S20x256 .f32)
  (X4 : Vec F S2560x896 .fp8e4m3) (X5 : Vec F S1x2560 .f32)

/-- The codes, the scales and the decoded block, decoded below row `n`. -/
def dlHeld (n : ℕ) : sProp 𝕄 :=
  iprop(owns (c : Thread nD τ) arg2 fullShare X2 ∗ owns (c : Thread nD τ) arg3 fullShare X3
    ∗ ∃ X, ⌜EqRows n X (DL v7 X2 X3)⌝ ∗ owns (c : Thread nD τ) arg12 fullShare X)

/-- The hidden states' codes, their scales and their decoding, decoded below column `n`. -/
def htHeld (n : ℕ) : sProp 𝕄 :=
  iprop(owns (c : Thread nD τ) arg4 fullShare X4 ∗ owns (c : Thread nD τ) arg5 fullShare X5
    ∗ ∃ X, ⌜EqCols n X (HT X4 X5)⌝ ∗ owns (c : Thread nD τ) arg11 fullShare X)

/-- The accumulator and the hidden states' gradient, written below row `n`. -/
def dhHeld (X13 : Vec F S896x2560 .f32) (n : ℕ) : sProp 𝕄 :=
  iprop(owns (c : Thread nD τ) arg13 fullShare X13
    ∗ ∃ X, ⌜EqRows' n X (DH X13)⌝ ∗ owns (c : Thread nD τ) arg10 fullShare X)

theorem part6 (K : _ → sProp 𝕄) :
    iprop(dlHeld arg2 arg3 arg12 c (k0_pay28 i) X2 X3 128 ∗ (∀ r, ⌜r = ⟨⟩⌝ -∗ dlHeld arg2 arg3 arg12 c (k0_pay28 i) X2 X3 512 -∗ K r)) ⊢ wp frame (wpE (defs₀ (F := F)) 𝒱₀ (c : Thread nD τ) none) Set.univ
      (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay28 i) (k0_pay30 i (rows2 X2 128) (row3 X3 1))) K := by
  simp only [k0_part6_eq_skeleton]; unfold k0_part6_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 3 384 rfl rfl (dl_step 2 256 rfl rfl (dl_step 1 128 rfl rfl hX))

theorem part7 (K : _ → sProp 𝕄) :
    iprop(dlHeld arg2 arg3 arg12 c v7 X2 X3 512 ∗ (∀ r, ⌜r = (k0_pay36 v7 (rows2 X2 768))⌝ -∗ dlHeld arg2 arg3 arg12 c v7 X2 X3 768 -∗ K r)) ⊢ wp frame (wpE (defs₀ (F := F)) 𝒱₀ (c : Thread nD τ) none) Set.univ
      (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7) K := by
  simp only [k0_part7_eq_skeleton]; unfold k0_part7_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  rw [wp_ret]; imodintro
  iapply Hk
  · ipureintro; first | rfl | trivial
  isplitl [H2]; · iexact H2
  isplitl [H3]; · iexact H3
  iexists _
  isplitr
  swap
  · iexact H12
  · ipureintro
    exact dl_step 5 640 rfl rfl (dl_step 4 512 rfl rfl hX)

theorem part8 (K : _ → sProp 𝕄) :
    iprop(dlHeld arg2 arg3 arg12 c v7 X2 X3 768 ∗ (∀ r, ⌜r = ⟨k0_pay39 v7 (row3 X3 8), k0_pay40 v7 (rows2 X2 1024)⟩⌝ -∗ dlHeld arg2 arg3 arg12 c v7 X2 X3 1024 -∗ K r)) ⊢ wp frame (wpE (defs₀ (F := F)) 𝒱₀ (c : Thread nD τ) none) Set.univ
      (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay36 v7 (rows2 X2 768))) K := by
  simp only [k0_part8_eq_skeleton]; unfold k0_part8_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; first | rfl | trivial
  isplitl [H2]; · iexact H2
  isplitl [H3]; · iexact H3
  iexists _
  isplitr
  swap
  · iexact H12
  · ipureintro
    exact dl_step 7 896 rfl rfl (dl_step 6 768 rfl rfl hX)

theorem part9 (K : _ → sProp 𝕄) :
    iprop(dlHeld arg2 arg3 arg12 c v7 X2 X3 1024 ∗ (∀ r, ⌜r = ⟨⟩⌝ -∗ dlHeld arg2 arg3 arg12 c v7 X2 X3 1408 -∗ K r)) ⊢ wp frame (wpE (defs₀ (F := F)) 𝒱₀ (c : Thread nD τ) none) Set.univ
      (k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay39 v7 (row3 X3 8)) (k0_pay40 v7 (rows2 X2 1024))) K := by
  simp only [k0_part9_eq_skeleton]; unfold k0_part9_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 10 1280 rfl rfl (dl_step 9 1152 rfl rfl (dl_step 8 1024 rfl rfl hX))

theorem part10 (K : _ → sProp 𝕄) :
    iprop(dlHeld arg2 arg3 arg12 c v7 X2 X3 1408 ∗ (∀ r, ⌜r = ⟨k0_pay46 (rows2 X2 1664), k0_pay47 v7, k0_pay48 (F := F)⟩⌝ -∗ dlHeld arg2 arg3 arg12 c v7 X2 X3 1664 -∗ K r)) ⊢ wp frame (wpE (defs₀ (F := F)) 𝒱₀ (c : Thread nD τ) none) Set.univ
      (k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7) K := by
  simp only [k0_part10_eq_skeleton]; unfold k0_part10_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  rw [wp_ret]; imodintro
  iapply Hk
  · ipureintro; first | rfl | trivial
  isplitl [H2]; · iexact H2
  isplitl [H3]; · iexact H3
  iexists _
  isplitr
  swap
  · iexact H12
  · ipureintro
    exact dl_step 12 1536 rfl rfl (dl_step 11 1408 rfl rfl hX)

theorem part11 (K : _ → sProp 𝕄) :
    iprop(dlHeld arg2 arg3 arg12 c v7 X2 X3 1664 ∗ (∀ r, ⌜r = ⟨k0_pay51 v7 (rows2 X2 1920), k0_pay52 v7 (row3 X3 15)⟩⌝ -∗ dlHeld arg2 arg3 arg12 c v7 X2 X3 1920 -∗ K r)) ⊢ wp frame (wpE (defs₀ (F := F)) 𝒱₀ (c : Thread nD τ) none) Set.univ
      (k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay46 (rows2 X2 1664)) (k0_pay47 v7) (k0_pay48 (F := F))) K := by
  simp only [k0_part11_eq_skeleton]; unfold k0_part11_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; first | rfl | trivial
  isplitl [H2]; · iexact H2
  isplitl [H3]; · iexact H3
  iexists _
  isplitr
  swap
  · iexact H12
  · ipureintro
    exact dl_step 14 1792 rfl rfl (dl_step 13 1664 rfl rfl hX)

theorem part12 (K : _ → sProp 𝕄) :
    iprop(dlHeld arg2 arg3 arg12 c v7 X2 X3 1920 ∗ (∀ r, ⌜r = (k0_pay55 v7 (rows2 X2 2176) (row3 X3 17))⌝ -∗ dlHeld arg2 arg3 arg12 c v7 X2 X3 2176 -∗ K r)) ⊢ wp frame (wpE (defs₀ (F := F)) 𝒱₀ (c : Thread nD τ) none) Set.univ
      (k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay51 v7 (rows2 X2 1920)) (k0_pay52 v7 (row3 X3 15))) K := by
  simp only [k0_part12_eq_skeleton]; unfold k0_part12_skel dlHeld
  simp only [Prog.lift, Prog.bind_op, Prog.bind_ret, Prog.pure_eq_ret]
  iintro ⟨⟨H2, H3, %X, %hX, H12⟩, Hk⟩
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  rw [wp_ret]; imodintro
  iapply Hk
  · ipureintro; first | rfl | trivial
  isplitl [H2]; · iexact H2
  isplitl [H3]; · iexact H3
  iexists _
  isplitr
  swap
  · iexact H12
  · ipureintro
    exact dl_step 16 2048 rfl rfl (dl_step 15 1920 rfl rfl hX)

theorem part1 (K : _ → sProp 𝕄) :
    iprop(htHeld arg4 arg5 arg11 c X4 X5 0 ∗ (∀ r, ⌜r = (rows4 X4 768)⌝ -∗ htHeld arg4 arg5 arg11 c X4 X5 768 -∗ K r)) ⊢ wp frame (wpE (defs₀ (F := F)) 𝒱₀ (c : Thread nD τ) none) Set.univ
      (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part1_eq_skeleton]; unfold k0_part1_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  rw [wp_ret]; imodintro
  iapply Hk
  · ipureintro; first | rfl | trivial
  isplitl [H4]; · iexact H4
  isplitl [H5]; · iexact H5
  iexists _
  isplitr
  swap
  · iexact H11
  · ipureintro
    exact ht_step 512 rfl (ht_step 256 rfl (ht_step 0 rfl hX))

theorem part2 (K : _ → sProp 𝕄) :
    iprop(htHeld arg4 arg5 arg11 c X4 X5 768 ∗ (∀ r, ⌜r = (k0_pay13 (rows4 X4 1536))⌝ -∗ htHeld arg4 arg5 arg11 c X4 X5 1536 -∗ K r)) ⊢ wp frame (wpE (defs₀ (F := F)) 𝒱₀ (c : Thread nD τ) none) Set.univ
      (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (rows4 X4 768)) K := by
  simp only [k0_part2_eq_skeleton]; unfold k0_part2_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  rw [wp_ret]; imodintro
  iapply Hk
  · ipureintro; first | rfl | trivial
  isplitl [H4]; · iexact H4
  isplitl [H5]; · iexact H5
  iexists _
  isplitr
  swap
  · iexact H11
  · ipureintro
    exact ht_step 1280 rfl (ht_step 1024 rfl (ht_step 768 rfl hX))

theorem part3 (K : _ → sProp 𝕄) :
    iprop(htHeld arg4 arg5 arg11 c X4 X5 1536 ∗ (∀ r, ⌜r = ⟨k0_pay17 (rows4 X4 2304), cols5 X5 2304⟩⌝ -∗ htHeld arg4 arg5 arg11 c X4 X5 2304 -∗ K r)) ⊢ wp frame (wpE (defs₀ (F := F)) 𝒱₀ (c : Thread nD τ) none) Set.univ
      (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_pay13 (rows4 X4 1536))) K := by
  simp only [k0_part3_eq_skeleton]; unfold k0_part3_skel htHeld
  simp only [Prog.lift, Prog.bind_op, Prog.bind_ret, Prog.pure_eq_ret]
  iintro ⟨⟨H4, H5, %X, %hX, H11⟩, Hk⟩
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg4)) $$ H4; iintro H4
  iapply (Own.load 𝒱₀ (c : Thread nD τ) none Set.univ (m := arg5)) $$ H5; iintro H5
  rw [wp_ret]; imodintro
  iapply Hk
  · ipureintro; first | rfl | trivial
  isplitl [H4]; · iexact H4
  isplitl [H5]; · iexact H5
  iexists _
  isplitr
  swap
  · iexact H11
  · ipureintro
    exact ht_step 2048 rfl (ht_step 1792 rfl (ht_step 1536 rfl hX))

theorem part4 (X13 : Vec F S896x2560 .f32) (K : _ → sProp 𝕄) :
    iprop(dhHeld arg10 arg13 c X13 0 ∗ (∀ r, ⌜r = (k0_pay24 (cols13 X13 1536))⌝ -∗ dhHeld arg10 arg13 c X13 1536 -∗ K r)) ⊢ wp frame (wpE (defs₀ (F := F)) 𝒱₀ (c : Thread nD τ) none) Set.univ
      (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part4_eq_skeleton]; unfold k0_part4_skel dhHeld
  simp only [Prog.lift, Prog.bind_op, Prog.bind_ret, Prog.pure_eq_ret]
  iintro ⟨⟨H13, %X, %hX, H10⟩, Hk⟩
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  iapply (Own.load 𝒱₀ (c : Thread nD τ) none Set.univ (m := arg10)) $$ H10; iintro H10
  iapply (Own.store 𝒱₀ (c : Thread nD τ) none Set.univ (m := arg10)) $$ H10; iintro H10
  iapply (Own.load 𝒱₀ (c : Thread nD τ) none Set.univ (m := arg13)) $$ H13; iintro H13
  rw [wp_ret]; imodintro
  iapply Hk
  · ipureintro; first | rfl | trivial
  isplitl [H13]; · iexact H13
  iexists _
  isplitr
  swap
  · iexact H10
  · ipureintro
    exact dh_step 1280 rfl (dh_step 1024 rfl (dh_step 768 rfl (dh_step 512 rfl (dh_step 256 rfl (dh_step 0 rfl hX)))))

end Cert.Proof.PI

end
-- ==== Proof.PI.Body.lean ====
/-
  The whole body at one grid step: held are the step's blocks, the scratch at what the steps before left it, and the output
  blocks at anything; left are the embedding tile and, at the last step, the hidden states' gradient.
-/
module

public import proofs.«01_k».proof.Proof.PI.Parts

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (tbl : Vec F S2560 .i32) (q : PosShare TreeShare) (X2 : Vec F S2560x256 .fp8e5m2) (X3 : Vec F S20x256 .f32)
  (X4 : Vec F S2560x896 .fp8e4m3) (X5 : Vec F S1x2560 .f32) (X6 : Vec F S256x896 .i8) (X7 : Vec F S1x256 .f32) (X8 : Vec F S2560x896 .bf16)

theorem eqCols_top {α : Type} {X G : S896x2560.Idx → α} (h : EqCols 2560 X G) : X = G := funext fun y => h y (y 1).isLt
theorem eqRows_top {α : Type} {X G : S2560x256.Idx → α} (h : EqRows 2560 X G) : X = G := funext fun y => h y (y 0).isLt
theorem eqRows'_top {α : Type} {X G : S2560x896.Idx → α} (h : EqRows' 2560 X G) : X = G := funext fun y => h y (y 0).isLt

/-- What the first step prepares for all of them: the decoded hidden states, the token gradients widened, the lists. -/
def prepared : sProp 𝕄 :=
  iprop(owns (c : Thread nD τ) arg11 fullShare (HT X4 X5) ∗ owns (c : Thread nD τ) arg14 fullShare (k0_pay27 X8)
    ∗ owns (c : Thread nD τ) arg15 fullShare (headAt tbl 2560) ∗ owns (c : Thread nD τ) arg16 fullShare (nextOf tbl))

/-- The part that begins the body, at a step after the first. -/
theorem part5_rest (h1 : ¬k0_cond1 i = 1#1) (X12 : Vec F S2560x256 .bf16) (K : _ → sProp 𝕄) :
    iprop((owns (c : Thread nD τ) arg2 fullShare X2 ∗ owns (c : Thread nD τ) arg3 fullShare X3 ∗ owns (c : Thread nD τ) arg12 fullShare X12)
      ∗ (∀ r, ⌜r = ⟨BitVec.ofNat 32 (i 0).val, k0_pay28 i, k0_pay30 i (rows2 X2 128) (row3 X3 1)⟩⌝
        -∗ dlHeld arg2 arg3 arg12 c (k0_pay28 i) X2 X3 128 -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part5_eq_skeleton]; unfold k0_part5_skel dlHeld
  simp only [dif_neg h1, Prog.lift, Prog.bind_op, Prog.bind_ret, Prog.pure_eq_ret]
  iintro ⟨⟨H2, H3, H12⟩, Hk⟩
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; rfl
  isplitl [H2]; · iexact H2
  isplitl [H3]; · iexact H3
  iexists _
  isplitr
  swap
  · iexact H12
  · ipureintro
    exact dl_step 0 0 rfl rfl (fun y hy => absurd hy (Nat.not_lt_zero _))

/-- The part that begins the body, at the first step. -/
theorem part5_first (hv : InVocab tbl) (h1 : k0_cond1 i = 1#1) (X11 : Vec F S896x2560 .bf16) (X12 : Vec F S2560x256 .bf16) (X13 : Vec F S896x2560 .f32)
    (X14 : Vec F S2560x896 .f32) (X15 : Vec F S594 .i32) (X16 : Vec F S2560 .i32) (K : _ → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg8 fullShare X8
        ∗ owns (c : Thread nD τ) arg11 fullShare X11 ∗ owns (c : Thread nD τ) arg12 fullShare X12 ∗ owns (c : Thread nD τ) arg13 fullShare X13
        ∗ owns (c : Thread nD τ) arg14 fullShare X14 ∗ owns (c : Thread nD τ) arg15 fullShare X15 ∗ owns (c : Thread nD τ) arg16 fullShare X16)
      ∗ (∀ r, ⌜r = ⟨BitVec.ofNat 32 (i 0).val, k0_pay28 i, k0_pay30 i (rows2 X2 128) (row3 X3 1)⟩⌝
        -∗ (owns (c : Thread nD τ) arg1 q tbl ∗ owns (c : Thread nD τ) arg4 fullShare X4 ∗ owns (c : Thread nD τ) arg5 fullShare X5
          ∗ owns (c : Thread nD τ) arg8 fullShare X8 ∗ owns (c : Thread nD τ) arg13 fullShare (k0_pay26 (F := F))
          ∗ prepared arg11 arg14 arg15 arg16 c tbl X4 X5 X8 ∗ dlHeld arg2 arg3 arg12 c (k0_pay28 i) X2 X3 128) -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part5_eq_skeleton]; unfold k0_part5_skel dlHeld prepared
  simp only [dif_pos h1, Prog.lift, Prog.bind_op, Prog.bind_ret, Prog.pure_eq_ret]
  iintro ⟨⟨H1, H2, H3, H4, H5, H8, H11, H12, H13, H14, H15, H16⟩, Hk⟩
  rw [wp_bind]
  iapply (part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact (fun y hy => absurd hy (Nat.not_lt_zero _))
  iintro %r %hr ⟨H4, H5, %Y1, %hY1, H11⟩
  subst hr
  rw [wp_bind]
  iapply (part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact hY1
  iintro %r %hr ⟨H4, H5, %Y2, %hY2, H11⟩
  subst hr
  rw [wp_bind]
  iapply (part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X4 X5)
  unfold htHeld
  isplitl [H4 H5 H11]
  · isplitl [H4]; · iexact H4
    isplitl [H5]; · iexact H5
    iexists _; isplitr
    swap
    · iexact H11
    · ipureintro; exact hY2
  iintro %r %hr ⟨H4, H5, %Y3, %hY3, H11⟩
  subst hr
  iapply (Own.load 𝒱₀ (c : Thread nD τ) none Set.univ (m := arg11)) $$ H11; iintro H11
  iapply (Own.store 𝒱₀ (c : Thread nD τ) none Set.univ (m := arg11)) $$ H11; iintro H11
  iapply (Own.load 𝒱₀ (c : Thread nD τ) none Set.univ (m := arg13)) $$ H13; iintro H13
  iapply (Own.store 𝒱₀ (c : Thread nD τ) none Set.univ (m := arg13)) $$ H13; iintro H13
  iapply (Own.load 𝒱₀ (c : Thread nD τ) none Set.univ (m := arg8)) $$ H8; iintro H8
  iapply (Own.load 𝒱₀ (c : Thread nD τ) none Set.univ (m := arg14)) $$ H14; iintro H14
  iapply (Own.store 𝒱₀ (c : Thread nD τ) none Set.univ (m := arg14)) $$ H14; iintro H14
  iapply (Scf.wp_for_bind _ _ _ _ _ _ _ _ _ (fun k _ => heads0 arg15 c k) (fun k acc => t1_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c h1 k acc)) $$ [H15]
  · unfold heads0
    iexists X15
    isplitr
    · ipureintro; exact fun y hy => absurd hy (Nat.not_lt_zero _)
    · iexact H15
  iintro %acc H15
  unfold heads0
  icases H15 with ⟨%Y15, %hY15, H15⟩
  have h15 : Y15 = headAt tbl 0 := funext fun y => hY15 y (lt_of_lt_of_eq (y 0).isLt t1_trips.symm)
  subst h15
  iapply (Scf.wp_for_bind _ _ _ _ _ _ _ _ _ (fun k _ => listsAt arg1 arg15 arg16 c tbl q k) (fun k acc => t2_trip i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c hv q h1 k acc)) $$ [H1 H15 H16]
  · unfold listsAt
    isplitl [H1]; · iexact H1
    isplitl [H15]; · iexact H15
    iexists X16
    isplitr
    · ipureintro; exact fun y hy => absurd hy (Nat.not_lt_zero _)
    · iexact H16
  iintro %acc2 H
  unfold listsAt
  icases H with ⟨H1, H15, %Y16, %hY16, H16⟩
  have h16 : Y16 = nextOf tbl := funext fun y => hY16 y (lt_of_lt_of_eq (y 0).isLt t2_trips.symm)
  subst h16
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  rw [wp_ret]; imodintro
  iapply Hk
  · ipureintro; rfl
  isplitl [H1]; · iexact H1
  isplitl [H4]; · iexact H4
  isplitl [H5]; · iexact H5
  isplitl [H8]; · iexact H8
  isplitl [H13]
  · iapply (Own.recast (c : Thread nD τ) (put_full inb_S896x2560_S896x2560_0_0 X13 (k0_pay26 (F := F)))); iexact H13
  isplitl [H11 H14 H15 H16]
  · isplitl [H11]
    · iapply (Own.recast (c : Thread nD τ) (eqCols_top (ht_step 2304 (i1 := inb_S2560x896_S256x896_2304_0) (i2 := inb_S1x2560_S1x256_0_2304) (i3 := inb_S896x2560_S896x256_0_2304) rfl hY3))); iexact H11
    isplitl [H14]
    · iapply (Own.recast (c : Thread nD τ) ((put_full inb_S2560x896_S2560x896_0_0 X14 _).trans (congrArg k0_pay27 (emb_full inb_S2560x896_S2560x896_0_0 X8)))); iexact H14
    isplitl [H15]; · rw [← t2_trips]; iexact H15
    iexact H16
  isplitl [H2]; · iexact H2
  isplitl [H3]; · iexact H3
  iexists _
  isplitr
  swap
  · iexact H12
  · ipureintro
    exact dl_step 0 0 rfl rfl (fun y hy => absurd hy (Nat.not_lt_zero _))

end Cert.Proof.PI

end
-- ==== Proof.PI.Step.lean ====
/-
  The body at any grid step, from what the step before left to what it leaves: the tile of the embedding's gradient, the
  hidden states' gradient so far and, at the last step, its rounding.
-/
module

public import proofs.«01_k».proof.Proof.PI.Body

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.Own Cert.Proof.Chain

variable {F : FTy → Type} [FloatOps F]

local notation "𝕄" => MT nD τ sig Unit (Elt F) ℕ (UR sig nD τ) ℕ

variable (i : grid0.Coords)
  (arg1 : Memref sig .tc .smem S2560 .i32) (harg1 : arg1.IsWhole)
  (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)
  (arg11 : Memref sig .tc .vmem S896x2560 .bf16) (harg11 : arg11.IsWhole)
  (arg12 : Memref sig .tc .vmem S2560x256 .bf16) (harg12 : arg12.IsWhole)
  (arg13 : Memref sig .tc .vmem S896x2560 .f32) (harg13 : arg13.IsWhole)
  (arg14 : Memref sig .tc .vmem S2560x896 .f32) (harg14 : arg14.IsWhole)
  (arg15 : Memref sig .tc .smem S594 .i32) (harg15 : arg15.IsWhole)
  (arg16 : Memref sig .tc .smem S2560 .i32) (harg16 : arg16.IsWhole)

variable (c : Dev nD) (tbl : Vec F S2560 .i32) (q : PosShare TreeShare) (X2 : Vec F S2560x256 .fp8e5m2) (X3 : Vec F S20x256 .f32)
  (X4 : Vec F S2560x896 .fp8e4m3) (X5 : Vec F S1x2560 .f32) (X6 : Vec F S256x896 .i8) (X7 : Vec F S1x256 .f32) (X8 : Vec F S2560x896 .bf16)

/-- The last part of the decoding: the two last runs of rows, and what the product reads. -/
theorem part13 (v7 : IVec S1x256 1) (K : _ → sProp 𝕄) :
    iprop((owns (c : Thread nD τ) arg11 fullShare (HT X4 X5) ∗ dlHeld arg2 arg3 arg12 c v7 X2 X3 2176)
      ∗ (∀ r, ⌜r = ⟨HT X4 X5, DL v7 X2 X3⟩⌝ -∗ (owns (c : Thread nD τ) arg11 fullShare (HT X4 X5)
        ∗ owns (c : Thread nD τ) arg2 fullShare X2 ∗ owns (c : Thread nD τ) arg3 fullShare X3 ∗ owns (c : Thread nD τ) arg12 fullShare (DL v7 X2 X3)) -∗ K r))
      ⊢ wp frame (wpE (defs₀ (F := F)) 𝒱₀ (c : Thread nD τ) none) Set.univ
        (k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v7 (k0_pay55 v7 (rows2 X2 2176) (row3 X3 17))) K := by
  simp only [k0_part13_eq_skeleton]; unfold k0_part13_skel dlHeld
  simp only [Prog.lift, Prog.bind_op, Prog.bind_ret, Prog.pure_eq_ret]
  iintro ⟨⟨H11, H2, H3, %X, %hX, H12⟩, Hk⟩
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg2)) $$ H2; iintro H2
  iapply (Own.load 𝒱₀ (c : Thread nD τ) none Set.univ (m := arg3)) $$ H3; iintro H3
  iapply (Own.load 𝒱₀ (c : Thread nD τ) none Set.univ (m := arg12)) $$ H12; iintro H12
  iapply (Own.store 𝒱₀ (c : Thread nD τ) none Set.univ (m := arg12)) $$ H12; iintro H12
  iapply (Own.load 𝒱₀ (c : Thread nD τ) none Set.univ (m := arg11)) $$ H11; iintro H11
  iapply (Own.load 𝒱₀ (c : Thread nD τ) none Set.univ (m := arg12)) $$ H12; iintro H12
  rw [wp_ret]; imodintro
  iapply Hk
  · ipureintro
    exact congrArg₂ PSigma.mk (emb_full inb_S896x2560_S896x2560_0_0 (HT X4 X5)) ((emb_full inb_S2560x256_S2560x256_0_0 _).trans (eqRows_top (dl_step 19 2432 rfl (i1 := inb_S2560x256_S128x256_2432_0) (i2 := inb_S20x256_S1x256_19_0)
    (i3 := inb_S2560x256_S128x256_2432_0) rfl (dl_step 18 2304 rfl (i1 := inb_S2560x256_S128x256_2304_0) (i2 := inb_S20x256_S1x256_18_0)
    (i3 := inb_S2560x256_S128x256_2304_0) rfl (dl_step 17 2176 rfl (i1 := inb_S2560x256_S128x256_2176_0) (i2 := inb_S20x256_S1x256_17_0)
    (i3 := inb_S2560x256_S128x256_2176_0) rfl hX)))))
  isplitl [H11]; · iexact H11
  isplitl [H2]; · iexact H2
  isplitl [H3]; · iexact H3
  iapply (Own.recast (c : Thread nD τ) (eqRows_top (dl_step 19 2432 rfl (i1 := inb_S2560x256_S128x256_2432_0) (i2 := inb_S20x256_S1x256_19_0)
    (i3 := inb_S2560x256_S128x256_2432_0) rfl (dl_step 18 2304 rfl (i1 := inb_S2560x256_S128x256_2304_0) (i2 := inb_S20x256_S1x256_18_0)
    (i3 := inb_S2560x256_S128x256_2304_0) rfl (dl_step 17 2176 rfl (i1 := inb_S2560x256_S128x256_2176_0) (i2 := inb_S20x256_S1x256_17_0)
    (i3 := inb_S2560x256_S128x256_2176_0) rfl hX)))))
  iexact H12

/-- The scratch that persists, before a step: anything before the first, what the first prepared and the gradient so far after. -/
def before (A : Vec F S896x2560 .f32) : sProp 𝕄 :=
  if k0_cond1 i = 1#1 then
    iprop(∃ X11 X13 X14 X15 X16, owns (c : Thread nD τ) arg11 fullShare X11 ∗ owns (c : Thread nD τ) arg13 fullShare X13
      ∗ owns (c : Thread nD τ) arg14 fullShare X14 ∗ owns (c : Thread nD τ) arg15 fullShare X15 ∗ owns (c : Thread nD τ) arg16 fullShare X16)
  else iprop(prepared arg11 arg14 arg15 arg16 c tbl X4 X5 X8 ∗ owns (c : Thread nD τ) arg13 fullShare A)

/-- The gradient of the hidden states that a step adds to. -/
def acc0 (i : grid0.Coords) (A : Vec F S896x2560 .f32) : Vec F S896x2560 .f32 := if k0_cond1 i = 1#1 then k0_pay26 else A

/-- The part that begins the body, at any step. -/
theorem part5 (hv : InVocab tbl) (A : Vec F S896x2560 .f32) (X12 : Vec F S2560x256 .bf16) (K : _ → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg8 fullShare X8
        ∗ owns (c : Thread nD τ) arg12 fullShare X12 ∗ before i arg11 arg13 arg14 arg15 arg16 c tbl X4 X5 X8 A)
      ∗ (∀ r, ⌜r = ⟨BitVec.ofNat 32 (i 0).val, k0_pay28 i, k0_pay30 i (rows2 X2 128) (row3 X3 1)⟩⌝
        -∗ (owns (c : Thread nD τ) arg1 q tbl ∗ owns (c : Thread nD τ) arg4 fullShare X4 ∗ owns (c : Thread nD τ) arg5 fullShare X5
          ∗ owns (c : Thread nD τ) arg8 fullShare X8 ∗ owns (c : Thread nD τ) arg13 fullShare (acc0 i A)
          ∗ prepared arg11 arg14 arg15 arg16 c tbl X4 X5 X8 ∗ dlHeld arg2 arg3 arg12 c (k0_pay28 i) X2 X3 128) -∗ K r))
      ⊢ wp frame (wpE (defs₀ (F := F)) 𝒱₀ (c : Thread nD τ) none) Set.univ (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  by_cases h1 : k0_cond1 i = 1#1
  · unfold before acc0
    rw [if_pos h1, if_pos h1]
    iintro ⟨⟨H1, H2, H3, H4, H5, H8, H12, %X11, %X13, %X14, %X15, %X16, H11, H13, H14, H15, H16⟩, Hk⟩
    iapply (part5_first i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c tbl q X2 X3 X4 X5 X8 hv h1 X11 X12 X13 X14 X15 X16 K)
    isplitl [H1 H2 H3 H4 H5 H8 H12 H11 H13 H14 H15 H16]
    · isplitl [H1]; · iexact H1
      isplitl [H2]; · iexact H2
      isplitl [H3]; · iexact H3
      isplitl [H4]; · iexact H4
      isplitl [H5]; · iexact H5
      isplitl [H8]; · iexact H8
      isplitl [H11]; · iexact H11
      isplitl [H12]; · iexact H12
      isplitl [H13]; · iexact H13
      isplitl [H14]; · iexact H14
      isplitl [H15]; · iexact H15
      iexact H16
    · iexact Hk
  · unfold before acc0
    rw [if_neg h1, if_neg h1]
    iintro ⟨⟨H1, H2, H3, H4, H5, H8, H12, HP, H13⟩, Hk⟩
    iapply (part5_rest i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 h1 X12 K)
    isplitl [H2 H3 H12]
    · isplitl [H2]; · iexact H2
      isplitl [H3]; · iexact H3
      iexact H12
    iintro %r %hr HD
    iapply Hk
    · ipureintro; exact hr
    isplitl [H1]; · iexact H1
    isplitl [H4]; · iexact H4
    isplitl [H5]; · iexact H5
    isplitl [H8]; · iexact H8
    isplitl [H13]; · iexact H13
    isplitl [HP]; · iexact HP
    iexact HD

/-- The tile that a step leaves. -/
def tileAfter (i : grid0.Coords) (tbl : Vec F S2560 .i32) (X2 : Vec F S2560x256 .fp8e5m2) (X3 : Vec F S20x256 .f32)
    (X4 : Vec F S2560x896 .fp8e4m3) (X5 : Vec F S1x2560 .f32) (X8 : Vec F S2560x896 .bf16) : Vec F S256x896 .f32 :=
  tileOf tbl (k0_pay27 X8) (i 0).val (k0_pay1 (HT X4 X5) (DL (k0_pay28 i) X2 X3))

/-- The gradient of the hidden states that a step leaves. -/
def accAfter (i : grid0.Coords) (X2 : Vec F S2560x256 .fp8e5m2) (X3 : Vec F S20x256 .f32) (X6 : Vec F S256x896 .i8) (X7 : Vec F S1x256 .f32)
    (A : Vec F S896x2560 .f32) : Vec F S896x2560 .f32 :=
  k0_pay2 (k0_pay28 i) X7 X6 (acc0 i A) (DL (k0_pay28 i) X2 X3)

/-- The body at any step. -/
theorem body (hv : InVocab tbl) (A : Vec F S896x2560 .f32) (X9 : Vec F S256x896 .f32) (X10 : Vec F S2560x896 .bf16) (X12 : Vec F S2560x256 .bf16)
    (K : PUnit → sProp 𝕄) :
    iprop((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare X9 ∗ owns (c : Thread nD τ) arg10 fullShare X10
        ∗ owns (c : Thread nD τ) arg12 fullShare X12 ∗ before i arg11 arg13 arg14 arg15 arg16 c tbl X4 X5 X8 A)
      ∗ ((owns (c : Thread nD τ) arg1 q tbl ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ owns (c : Thread nD τ) arg8 fullShare X8
        ∗ owns (c : Thread nD τ) arg9 fullShare (tileAfter i tbl X2 X3 X4 X5 X8)
        ∗ (∃ X, ⌜k0_cond2 i = 1#1 → X = DH (accAfter i X2 X3 X6 X7 A)⌝ ∗ owns (c : Thread nD τ) arg10 fullShare X)
        ∗ owns (c : Thread nD τ) arg12 fullShare (DL (k0_pay28 i) X2 X3) ∗ prepared arg11 arg14 arg15 arg16 c tbl X4 X5 X8
        ∗ owns (c : Thread nD τ) arg13 fullShare (accAfter i X2 X3 X6 X7 A)) -∗ K ⟨⟩))
      ⊢ wp frame (wpE (defs₀ (F := F)) 𝒱₀ (c : Thread nD τ) none) Set.univ (cc0_tied_embedding_grad i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_tied_embedding_grad_eq_skeleton]; unfold cc0_tied_embedding_grad_skel
  simp only [Prog.lift, Prog.bind_op, Prog.bind_ret, Prog.pure_eq_ret]
  iintro ⟨⟨H1, H2, H3, H4, H5, H6, H7, H8, H9, H10, H12, HB⟩, Hk⟩
  rw [wp_bind]
  iapply (part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c tbl q X2 X3 X4 X5 X8 hv A X12 _)
  isplitl [H1 H2 H3 H4 H5 H8 H12 HB]
  · isplitl [H1]; · iexact H1
    isplitl [H2]; · iexact H2
    isplitl [H3]; · iexact H3
    isplitl [H4]; · iexact H4
    isplitl [H5]; · iexact H5
    isplitl [H8]; · iexact H8
    isplitl [H12]; · iexact H12
    iexact HB
  iintro %r %hr ⟨H1, H4, H5, H8, H13, HP, HD⟩
  subst hr
  rw [wp_bind]
  iapply (part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 _)
  isplitl [HD]; · iexact HD
  iintro %r %hr HD
  subst hr
  rw [wp_bind]
  iapply (part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  rw [wp_bind]
  iapply (part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (k0_pay28 i) X2 X3 _)
  isplitl [HD]; · iexact HD
  iintro %r %hr HD
  subst hr
  unfold prepared
  icases HP with ⟨H11, H14, H15, H16⟩
  rw [wp_bind]
  iapply (part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c X2 X3 X4 X5 (k0_pay28 i) _)
  isplitl [H11 HD]
  · isplitl [H11]; · iexact H11
    iexact HD
  iintro %r %hr ⟨H11, H2, H3, H12⟩
  subst hr
  dsimp only
  iapply (Own.load 𝒱₀ (c : Thread nD τ) none Set.univ (m := arg9)) $$ H9; iintro H9
  iapply (Own.store 𝒱₀ (c : Thread nD τ) none Set.univ (m := arg9)) $$ H9; iintro H9
  ihave H9 := (Own.recast (c : Thread nD τ) (put_full inb_S256x896_S256x896_0_0 X9 (k0_pay1 (HT X4 X5) (DL (k0_pay28 i) X2 X3)))) $$ H9
  iapply (Own.load 𝒱₀ (c : Thread nD τ) none Set.univ (m := arg7)) $$ H7; iintro H7
  iapply (Own.load 𝒱₀ (c : Thread nD τ) none Set.univ (m := arg6)) $$ H6; iintro H6
  iapply (Own.load 𝒱₀ (c : Thread nD τ) none Set.univ (m := arg13)) $$ H13; iintro H13
  iapply (Own.load 𝒱₀ (c : Thread nD τ) none Set.univ (m := arg12)) $$ H12; iintro H12
  iapply (Own.load 𝒱₀ (c : Thread nD τ) none Set.univ (m := arg13)) $$ H13; iintro H13
  iapply (Own.store 𝒱₀ (c : Thread nD τ) none Set.univ (m := arg13)) $$ H13; iintro H13
  have e13 : accAfter i X2 X3 X6 X7 A = k0_pay2 (k0_pay28 i) (fun x => X7 ((Rect.unit (s := S1x256) ![0, 0] S1x256.size inb_S1x256_S1x256_0_0).emb x))
      (fun x => X6 ((Rect.unit (s := S256x896) ![0, 0] S256x896.size inb_S256x896_S256x896_0_0).emb x))
      (fun x => (acc0 i A) ((Rect.unit (s := S896x2560) ![0, 0] S896x2560.size inb_S896x2560_S896x2560_0_0).emb x))
      (fun x => (DL (k0_pay28 i) X2 X3) ((Rect.unit (s := S2560x256) ![0, 0] S2560x256.size inb_S2560x256_S2560x256_0_0).emb x)) := by
    have a := emb_full inb_S1x256_S1x256_0_0 X7
    have b := emb_full inb_S256x896_S256x896_0_0 X6
    have d := emb_full inb_S896x2560_S896x2560_0_0 (acc0 i A)
    have e := emb_full inb_S2560x256_S2560x256_0_0 (DL (k0_pay28 i) X2 X3)
    exact (congr (congr (congr (congrArg (k0_pay2 (k0_pay28 i)) a) b) d) e).symm
  have e14 : put (Rect.unit (s := S896x2560) ![0, 0] S896x2560.size inb_S896x2560_S896x2560_0_0) (acc0 i A) (k0_pay2 (k0_pay28 i)
      (fun x => X7 ((Rect.unit (s := S1x256) ![0, 0] S1x256.size inb_S1x256_S1x256_0_0).emb x))
      (fun x => X6 ((Rect.unit (s := S256x896) ![0, 0] S256x896.size inb_S256x896_S256x896_0_0).emb x))
      (fun x => (acc0 i A) ((Rect.unit (s := S896x2560) ![0, 0] S896x2560.size inb_S896x2560_S896x2560_0_0).emb x))
      (fun x => (DL (k0_pay28 i) X2 X3) ((Rect.unit (s := S2560x256) ![0, 0] S2560x256.size inb_S2560x256_S2560x256_0_0).emb x)))
      = accAfter i X2 X3 X6 X7 A := by
    rw [e13]
    exact put_full inb_S896x2560_S896x2560_0_0 _ _
  iapply (Own.rename (c : Thread nD τ) (m := arg13) (q := fullShare) e14)
  isplitl [H13]; · iexact H13
  iintro H13
  iapply (Own.loadWord 𝒱₀ (c : Thread nD τ) none Set.univ (m := arg15) (i 0) (congrFun (k0_off5_eq i) 0)) $$ H15; iintro H15
  have e15 : (headAt tbl 2560 (ix1 (i 0)) : BitVec 32) = enc (last (tileNo tbl) 2560 (i 0).val) := rfl
  rw [e15]
  iapply (wp_call_spec 𝒱₀ (c : Thread nD τ) none Set.univ
    (walkSpec arg1 arg9 arg14 arg16 c tbl (k0_pay27 X8) q (i 0).val 2560 (k0_pay1 (HT X4 X5) (DL (k0_pay28 i) X2 X3))) 2560 (fun u hu => nomatch hu)
    (walk_le i arg1 harg1 arg9 harg9 arg14 harg14 arg16 harg16 c tbl (k0_pay27 X8) q hv Set.univ 2560 le_rfl 2560 le_rfl (k0_pay1 (HT X4 X5) (DL (k0_pay28 i) X2 X3))))
  rw [walkSpec_apply]
  unfold walkHeld
  isplitl [H1 H9 H14 H16]
  · isplitl [H1]; · iexact H1
    isplitl [H9]; · iexact H9
    isplitl [H14]; · iexact H14
    iexact H16
  iintro %r ⟨H1, H9, H14, H16⟩
  by_cases h2 : k0_cond2 i = 1#1
  · simp only [dif_pos h2, Prog.lift, Prog.bind_op, Prog.bind_ret, Prog.pure_eq_ret]
    rw [wp_bind]
    iapply (part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 c (accAfter i X2 X3 X6 X7 A) _)
    unfold dhHeld
    isplitl [H13 H10]
    · isplitl [H13]; · iexact H13
      iexists X10
      isplitr
      · ipureintro; exact fun y hy => absurd hy (Nat.not_lt_zero _)
      · iexact H10
    iintro %r4 %hr ⟨H13, %X, %hX, H10⟩
    subst hr
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    iapply (Own.load 𝒱₀ (c : Thread nD τ) none Set.univ (m := arg13)) $$ H13; iintro H13
    iapply (Own.load 𝒱₀ (c : Thread nD τ) none Set.univ (m := arg10)) $$ H10; iintro H10
    iapply (Own.store 𝒱₀ (c : Thread nD τ) none Set.univ (m := arg10)) $$ H10; iintro H10
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _
      isplitr
      swap
      · iexact H10
      · ipureintro
        exact fun _ => eqRows'_top (dh_step 2304 (i1 := inb_S896x2560_S896x256_0_2304) (i3 := inb_S2560x896_S256x896_2304_0) rfl
          (dh_step 2048 (i1 := inb_S896x2560_S896x256_0_2048) (i3 := inb_S2560x896_S256x896_2048_0) rfl
          (dh_step 1792 (i1 := inb_S896x2560_S896x256_0_1792) (i3 := inb_S2560x896_S256x896_1792_0) rfl
          (dh_step 1536 (i1 := inb_S896x2560_S896x256_0_1536) (i3 := inb_S2560x896_S256x896_1536_0) rfl hX))))
    isplitl [H12]; · iexact H12
    isplitr [H13]
    · isplitl [H11]; · iexact H11
      isplitl [H14]; · iexact H14
      isplitl [H15]; · iexact H15
      iexact H16
    iexact H13
  · simp only [dif_neg h2, Prog.lift, Prog.bind_op, Prog.bind_ret, Prog.pure_eq_ret]
    rw [wp_ret]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists X10
      isplitr
      · ipureintro; exact fun h => absurd h h2
      · iexact H10
    isplitl [H12]; · iexact H12
    isplitr [H13]
    · isplitl [H11]; · iexact H11
      isplitl [H14]; · iexact H14
      isplitl [H15]; · iexact H15
      iexact H16
    iexact H13

end Cert.Proof.PI

end
-- ==== Proof.PI.Data.lean ====
/-
  The launch of the kernel's one region: what the arrays hold when it is entered, what passes from one grid step to the next
  beside the staged blocks, and one grid step on the staged blocks.
-/
module

public import proofs.«01_k».proof.Proof.PI.Step
public import proofs.«01_k».proof.Proof.Gen.KernelIdeal.Launch
public import Idealize.ShloMosaic.Lib.Pipeline.FrameBody
public import Idealize.ShloMosaic.Lib.Pipeline.FrameSuffix
public import Idealize.ShloMosaic.Lib.Claim

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the reshapes of the arguments. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- The prefetched table: the token ids, as the region finds them. -/
abbrev tbl (c : Dev nD) : Vec F S2560 .i32 := V m c main_v0

/-- The contents the region runs at: the table as launched. The region asks nothing of them. -/
def adm : (p : Fin 1) → (pcfgs (F := F) p).Adm := fun _ => ⟨fun k => V m 0 (pre0.ref k), trivial⟩

/-- The pipeline at those contents. -/
abbrev cfgA : Cfg sig (Λ₀ F) := Pipeline.pin (pcfgs (F := F)) (adm m) 0

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the reshapes, the region and the reshape of its second result. -/
theorem hmain : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] hostOps0_sub hostOps0_fresh main_chain

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) fun k => ?_
  simp only [hostOps1, List.mem_cons, List.mem_nil_iff, or_false] at hop
  subst hop
  rw [StableHlo.reshape_bufs]
  fin_cases k
  simp only [Finset.mem_insert, Finset.mem_singleton, not_or]
  exact ⟨StableHlo.devRef_ne_of_ne (by decide), StableHlo.devRef_ne_of_ne (by decide)⟩

theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  rw [StableHlo.reshape_writes, Finset.mem_singleton]
  exact StableHlo.devRef_ne_of_ne ((by decide : ∀ w, Pipeline.arrRef spec0 w ≠ main_v8) w)

theorem sfx_writes : ∀ ops ∈ ([hostOps1] : List (List (HloOp τ sig (Elt F)))), ∀ op ∈ ops,
    ∀ b : Ref sig .tc, Proc.devRef .tc b ∈ op.writes → b ∈ ({main_v8} : Finset (Ref sig .tc)) := by
  intro ops hops op hop
  simp only [List.mem_cons, List.mem_nil_iff, or_false] at hops
  subst hops
  simp only [hostOps1, List.mem_cons, List.mem_nil_iff, or_false] at hop
  subst hop
  intro b hb
  rw [StableHlo.reshape_writes, Finset.mem_singleton] at hb
  exact Finset.mem_singleton.mpr (Proc.devRef_injective _ hb)

/-! ## The grid -/

theorem coords_val : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val = 593 := by decide +kernel

/-! ## What passes from step to step -/

/-- Beside the staged blocks, before step `t`: the table, the random generator's register, the decoded gradient's buffer
    at anything, and, from the second step on, the hidden states, the chains of the table and the rows of the embeddings'
    gradient prepared, and the hidden states' gradient so far at contents that meet `P t`. -/
def PhiAt (P : ℕ → Vec F S896x2560 .f32 → Prop) (c : Dev nD) (t : ℕ) : sProp 𝕄 :=
  iprop(owns (c : Thread nD τ) (Memref.whole main_v0) fullShare.right (tbl m c) ∗ (∃ r, prngReg c r)
    ∗ (∃ X, owns (c : Thread nD τ) (Memref.whole cc0_scratch1) fullShare X)
    ∗ if t = 0 then
        iprop((∃ X, owns (c : Thread nD τ) (Memref.whole cc0_scratch0) fullShare X) ∗ (∃ X, owns (c : Thread nD τ) (Memref.whole cc0_scratch2) fullShare X)
          ∗ (∃ X, owns (c : Thread nD τ) (Memref.whole cc0_scratch3) fullShare X) ∗ (∃ X, owns (c : Thread nD τ) (Memref.whole cc0_scratch4) fullShare X)
          ∗ (∃ X, owns (c : Thread nD τ) (Memref.whole cc0_scratch5) fullShare X))
      else
        iprop(prepared (Memref.whole cc0_scratch0) (Memref.whole cc0_scratch3) (Memref.whole cc0_scratch4) (Memref.whole cc0_scratch5) c
            (tbl m c) (V m c main_v3) (V m c main_v4) (V m c main_v6)
          ∗ ∃ A, ⌜P t A⌝ ∗ owns (c : Thread nD τ) (Memref.whole cc0_scratch2) fullShare A))

theorem PhiAt_zero (P : ℕ → Vec F S896x2560 .f32 → Prop) (c : Dev nD) :
    PhiAt m P c 0 = iprop(owns (c : Thread nD τ) (Memref.whole main_v0) fullShare.right (tbl m c) ∗ (∃ r, prngReg c r)
    ∗ (∃ X, owns (c : Thread nD τ) (Memref.whole cc0_scratch1) fullShare X)
    ∗ (∃ X, owns (c : Thread nD τ) (Memref.whole cc0_scratch0) fullShare X) ∗ (∃ X, owns (c : Thread nD τ) (Memref.whole cc0_scratch2) fullShare X)
          ∗ (∃ X, owns (c : Thread nD τ) (Memref.whole cc0_scratch3) fullShare X) ∗ (∃ X, owns (c : Thread nD τ) (Memref.whole cc0_scratch4) fullShare X)
          ∗ (∃ X, owns (c : Thread nD τ) (Memref.whole cc0_scratch5) fullShare X)) := by
  unfold PhiAt; rw [if_pos rfl]

theorem PhiAt_pos (P : ℕ → Vec F S896x2560 .f32 → Prop) (c : Dev nD) {t : ℕ} (h : t ≠ 0) :
    PhiAt m P c t = iprop(owns (c : Thread nD τ) (Memref.whole main_v0) fullShare.right (tbl m c) ∗ (∃ r, prngReg c r)
    ∗ (∃ X, owns (c : Thread nD τ) (Memref.whole cc0_scratch1) fullShare X)
    ∗ prepared (Memref.whole cc0_scratch0) (Memref.whole cc0_scratch3) (Memref.whole cc0_scratch4) (Memref.whole cc0_scratch5) c
            (tbl m c) (V m c main_v3) (V m c main_v4) (V m c main_v6)
          ∗ ∃ A, ⌜P t A⌝ ∗ owns (c : Thread nD τ) (Memref.whole cc0_scratch2) fullShare A) := by
  unfold PhiAt; rw [if_neg h]

/-! ## One step on the staged blocks -/

section Point

variable (arg2 : Memref sig .tc .vmem S2560x256 .fp8e5m2) (harg2 : arg2.IsWhole)
  (arg3 : Memref sig .tc .vmem S20x256 .f32) (harg3 : arg3.IsWhole)
  (arg4 : Memref sig .tc .vmem S2560x896 .fp8e4m3) (harg4 : arg4.IsWhole)
  (arg5 : Memref sig .tc .vmem S1x2560 .f32) (harg5 : arg5.IsWhole)
  (arg6 : Memref sig .tc .vmem S256x896 .i8) (harg6 : arg6.IsWhole)
  (arg7 : Memref sig .tc .vmem S1x256 .f32) (harg7 : arg7.IsWhole)
  (arg8 : Memref sig .tc .vmem S2560x896 .bf16) (harg8 : arg8.IsWhole)
  (arg9 : Memref sig .tc .vmem S256x896 .f32) (harg9 : arg9.IsWhole)
  (arg10 : Memref sig .tc .vmem S2560x896 .bf16) (harg10 : arg10.IsWhole)

variable (c : Dev nD) (X2 : Vec F S2560x256 .fp8e5m2) (X3 : Vec F S20x256 .f32) (X6 : Vec F S256x896 .i8) (X7 : Vec F S1x256 .f32)

/-- The body on staged blocks and the region's own buffers. -/
abbrev bodyOn (i : grid0.Coords) : Prog (TpuEff nD τ sig (Elt F) (Λ₀ F) .tc) PUnit :=
  cc0_tied_embedding_grad i (Memref.whole main_v0) (Memref.isWhole_whole _) arg2 harg2 arg3 harg3 arg4 harg4 arg5 harg5 arg6 harg6 arg7 harg7
    arg8 harg8 arg9 harg9 arg10 harg10 (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)

/-- The five staged inputs and the hidden states and embeddings' gradient, held. -/
abbrev inputs : sProp 𝕄 :=
  iprop(owns (c : Thread nD τ) arg2 fullShare X2 ∗ owns (c : Thread nD τ) arg3 fullShare X3
    ∗ owns (c : Thread nD τ) arg4 fullShare (V m c main_v3 : Vec F S2560x896 .fp8e4m3) ∗ owns (c : Thread nD τ) arg5 fullShare (V m c main_v4 : Vec F S1x2560 .f32)
    ∗ owns (c : Thread nD τ) arg6 fullShare X6 ∗ owns (c : Thread nD τ) arg7 fullShare X7
    ∗ owns (c : Thread nD τ) arg8 fullShare (V m c main_v6 : Vec F S2560x896 .bf16))

/-- One step: the inputs stay, the tile of the embedding's gradient is written, the hidden states' gradient moves on and is
    rounded at the last step. -/
theorem point (hv : InVocab (tbl m c)) (P : ℕ → Vec F S896x2560 .f32 → Prop) (t : Fin grid0.N)
    (hP : ∀ A, (t.val ≠ 0 → P t.val A) → P (t.val + 1) (accAfter (grid0.coords t) X2 X3 X6 X7 A))
    (X9 : Vec F S256x896 .f32) (X10 : Vec F S2560x896 .bf16) (K : PUnit → sProp 𝕄) :
    iprop((PhiAt m P c t.val ∗ inputs m arg2 arg3 arg4 arg5 arg6 arg7 arg8 c X2 X3 X6 X7 ∗ owns (c : Thread nD τ) arg9 fullShare X9
        ∗ owns (c : Thread nD τ) arg10 fullShare X10)
      ∗ ((PhiAt m P c (t.val + 1) ∗ inputs m arg2 arg3 arg4 arg5 arg6 arg7 arg8 c X2 X3 X6 X7
          ∗ owns (c : Thread nD τ) arg9 fullShare (tileAfter (grid0.coords t) (tbl m c) X2 X3 (V m c main_v3) (V m c main_v4) (V m c main_v6))
          ∗ ∃ X, ⌜t.val = 593 → ∃ A, (t.val ≠ 0 → P t.val A) ∧ X = DH (accAfter (grid0.coords t) X2 X3 X6 X7 A)⌝ ∗ owns (c : Thread nD τ) arg10 fullShare X) -∗ K ⟨⟩))
      ⊢ wp frame (wpE (defs₀ (F := F)) 𝒱₀ (c : Thread nD τ) none) Set.univ
        (bodyOn arg2 harg2 arg3 harg3 arg4 harg4 arg5 harg5 arg6 harg6 arg7 harg7 arg8 harg8 arg9 harg9 arg10 harg10 (grid0.coords t)) K := by
  rw [PhiAt_pos m P c (Nat.succ_ne_zero _)]
  by_cases h0 : t.val = 0
  · rw [h0, PhiAt_zero]
    rw [h0] at hP
    iintro ⟨⟨⟨H1, Hr, ⟨%X12, H12⟩, ⟨%X11, H11⟩, ⟨%X13, H13⟩, ⟨%X14, H14⟩, ⟨%X15, H15⟩, ⟨%X16, H16⟩⟩, ⟨H2, H3, H4, H5, H6, H7, H8⟩, H9, H10⟩, Hk⟩
    iapply (body (grid0.coords t) (Memref.whole main_v0) (Memref.isWhole_whole _) arg2 harg2 arg3 harg3 arg4 harg4 arg5 harg5 arg6 harg6 arg7 harg7
      arg8 harg8 arg9 harg9 arg10 harg10 (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      c (tbl m c) fullShare.right X2 X3 (V m c main_v3) (V m c main_v4) X6 X7 (V m c main_v6) hv X13 X9 X10 X12 K)
    unfold before
    rw [if_pos ((cond1_iff t).mpr h0)]
    isplitr [Hk Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      iexists X11; iexists X13; iexists X14; iexists X15; iexists X16
      isplitl [H11]; · iexact H11
      isplitl [H13]; · iexact H13
      isplitl [H14]; · iexact H14
      isplitl [H15]; · iexact H15
      iexact H16
    iintro ⟨H1, H2, H3, H4, H5, H6, H7, H8, H9, ⟨%X, %hX, H10⟩, H12, Hp, H13⟩
    iapply Hk
    isplitl [H1 Hr H12 Hp H13]
    · isplitl [H1]; · iexact H1
      isplitl [Hr]; · iexact Hr
      isplitl [H12]; · iexists _; iexact H12
      isplitl [Hp]; · iexact Hp
      iexists _; isplitr
      swap; · iexact H13
      ipureintro; exact hP X13 fun h => absurd rfl h
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexists X; isplitr
    swap; · iexact H10
    ipureintro; intro h; exact absurd h (by decide)
  · rw [PhiAt_pos m P c h0]
    iintro ⟨⟨⟨H1, Hr, ⟨%X12, H12⟩, Hp, ⟨%A, %hA, H13⟩⟩, ⟨H2, H3, H4, H5, H6, H7, H8⟩, H9, H10⟩, Hk⟩
    iapply (body (grid0.coords t) (Memref.whole main_v0) (Memref.isWhole_whole _) arg2 harg2 arg3 harg3 arg4 harg4 arg5 harg5 arg6 harg6 arg7 harg7
      arg8 harg8 arg9 harg9 arg10 harg10 (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      c (tbl m c) fullShare.right X2 X3 (V m c main_v3) (V m c main_v4) X6 X7 (V m c main_v6) hv A X9 X10 X12 K)
    unfold before
    rw [if_neg (fun h => h0 ((cond1_iff t).mp h))]
    isplitr [Hk Hr]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [Hp]; · iexact Hp
      iexact H13
    iintro ⟨H1, H2, H3, H4, H5, H6, H7, H8, H9, ⟨%X, %hX, H10⟩, H12, Hp, H13⟩
    iapply Hk
    isplitl [H1 Hr H12 Hp H13]
    · isplitl [H1]; · iexact H1
      isplitl [Hr]; · iexact Hr
      isplitl [H12]; · iexists _; iexact H12
      isplitl [Hp]; · iexact Hp
      iexists _; isplitr
      swap; · iexact H13
      ipureintro; exact hP A fun _ => hA
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9]; · iexact H9
    iexists X; isplitr
    swap; · iexact H10
    ipureintro; intro h
    exact ⟨A, fun _ => hA, hX ((cond2_iff t).mpr h)⟩

end Point

end Cert.Proof.PI

end
-- ==== Proof.PI.Blocks.lean ====
/-
  The staged blocks of the region's windows: which elements of which array a step finds in each.
-/
module

public import proofs.«01_k».proof.Proof.PI.Data
public import proofs.«01_k».proof.Proof.Gen.KernelIdeal.Launch
public import Idealize.ShloMosaic.Lib.Pipeline.FrameBody
public import Idealize.ShloMosaic.Lib.Pipeline.FrameSuffix
public import Idealize.ShloMosaic.Lib.Claim

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at step `t`, read off its array as the region finds it. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- What window `w`'s staging buffer holds when the block of step `t` is copied over contents `d`. -/
abbrev fetched (c : Dev nD) (w : Fin (cfgA m).W) (t : Fin (cfgA m).N) (d : ((cfgA m).win w).block.Idx → Elt F ((cfgA m).win w).elt) :
    ((cfgA m).win w).block.Idx → Elt F ((cfgA m).win w).elt :=
  ((cfgA m).win w).fill ((cfgA m).grid.coords t) d (iblk m c w t)

/-- Contents to name where any will do. -/
def anyOf (w : Fin (cfgA m).W) : ((cfgA m).win w).block.Idx → Elt F ((cfgA m).win w).elt := fun _ => Classical.arbitrary _

/-- The windows that hold an array whole hold it at every step. -/
theorem fetched_2 (c : Dev nD) (t : Fin (cfgA m).N) (d) : fetched m c 2 t d = (V m c main_v3 : Vec F S2560x896 .fp8e4m3) := by
  funext j
  show (V m c main_v3 : Vec F S2560x896 .fp8e4m3) _ = (V m c main_v3 : Vec F S2560x896 .fp8e4m3) _
  congr 1
  funext a; apply Fin.ext
  show cc0_transform_2 ((cfgA m).grid.coords t) a * S2560x896.size a + 1 * (j a).val = (j a).val
  have : cc0_transform_2 ((cfgA m).grid.coords t) a = 0 := by fin_cases a <;> rfl
  rw [this]; omega

theorem fetched_3 (c : Dev nD) (t : Fin (cfgA m).N) (d) : fetched m c 3 t d = (V m c main_v4 : Vec F S1x2560 .f32) := by
  funext j
  show (V m c main_v4 : Vec F S1x2560 .f32) _ = (V m c main_v4 : Vec F S1x2560 .f32) _
  congr 1
  funext a; apply Fin.ext
  show cc0_transform_3 ((cfgA m).grid.coords t) a * S1x2560.size a + 1 * (j a).val = (j a).val
  have : cc0_transform_3 ((cfgA m).grid.coords t) a = 0 := by fin_cases a <;> rfl
  rw [this]; omega

theorem fetched_6 (c : Dev nD) (t : Fin (cfgA m).N) (d) : fetched m c 6 t d = (V m c main_v6 : Vec F S2560x896 .bf16) := by
  funext j
  show (V m c main_v6 : Vec F S2560x896 .bf16) _ = (V m c main_v6 : Vec F S2560x896 .bf16) _
  congr 1
  funext a; apply Fin.ext
  show cc0_transform_6 ((cfgA m).grid.coords t) a * S2560x896.size a + 1 * (j a).val = (j a).val
  have : cc0_transform_6 ((cfgA m).grid.coords t) a = 0 := by fin_cases a <;> rfl
  rw [this]; omega

/-- Input window `w` is found holding its block, for any proof data that reads the region's arrays and leaves the block. -/
theorem before_of {c : Dev nD} (dat : Dat τ (Elt F) Unit ℕ (UR sig nD τ) ℕ (cfgA m) c) (w : Fin (cfgA m).W)
    (hA : dat.A w = V m c (Pipeline.arrRef spec0 w)) (hafter : ∀ t, dat.after w t = fetched m c w t (anyOf m w))
    (hin : ((cfgA m).win w).isOut = false) (hlive : ∀ i, (cfgA m).idle w i = false)
    (hclip : ∀ t t' : Fin (cfgA m).N, ((cfgA m).win w).index t = ((cfgA m).win w).index t' →
      ((cfgA m).win w).clip ((cfgA m).grid.coords t) = ((cfgA m).win w).clip ((cfgA m).grid.coords t'))
    (t : Fin (cfgA m).N) (d) : dat.before w t d = fetched m c w t d := by
  rw [dat.before_in_eq_fetched w hin hlive hclip (fun t => by
    rw [hafter, Window.cut_fill]; unfold Dat.blockOf iblk; rw [hA]) t d]
  unfold Dat.fetched Dat.blockOf fetched iblk; rw [hA]

theorem clip_0 (t t' : Fin (cfgA m).N) (h : ((cfgA m).win 0).index t = ((cfgA m).win 0).index t') :
    ((cfgA m).win 0).clip ((cfgA m).grid.coords t) = ((cfgA m).win 0).clip ((cfgA m).grid.coords t') :=
  funext fun a => congrArg (fun n => Pipeline.Clip.of n (S2560x256.size a) (S2560x151936.size a)) (congrFun h a)
theorem clip_1 (t t' : Fin (cfgA m).N) (h : ((cfgA m).win 1).index t = ((cfgA m).win 1).index t') :
    ((cfgA m).win 1).clip ((cfgA m).grid.coords t) = ((cfgA m).win 1).clip ((cfgA m).grid.coords t') :=
  funext fun a => congrArg (fun n => Pipeline.Clip.of n (S20x256.size a) (S20x151936.size a)) (congrFun h a)
theorem clip_4 (t t' : Fin (cfgA m).N) (h : ((cfgA m).win 4).index t = ((cfgA m).win 4).index t') :
    ((cfgA m).win 4).clip ((cfgA m).grid.coords t) = ((cfgA m).win 4).clip ((cfgA m).grid.coords t') :=
  funext fun a => congrArg (fun n => Pipeline.Clip.of n (S256x896.size a) (S151936x896.size a)) (congrFun h a)
theorem clip_5 (t t' : Fin (cfgA m).N) (h : ((cfgA m).win 5).index t = ((cfgA m).win 5).index t') :
    ((cfgA m).win 5).clip ((cfgA m).grid.coords t) = ((cfgA m).win 5).clip ((cfgA m).grid.coords t') :=
  funext fun a => congrArg (fun n => Pipeline.Clip.of n (S1x256.size a) (S1x151936.size a)) (congrFun h a)

/-- The body table's row at step `t` is the body on the staged blocks. -/
theorem defs₀_row (t : Fin (cfgA m).N) (s : (w : Fin 9) → Fin (spec0 w).nbuf) :
    defs₀ (F := F) .tc (cfgA m).body ((cfgA m).bodyArgs t s)
      = bodyOn (spec0_0.stage (s 0)) (hstage0_0 ((s 0).cast nbuf0_0)) (spec0_1.stage (s 1)) (hstage0_1 ((s 1).cast nbuf0_1))
        (spec0_2.stage (s 2)) (hstage0_2 ((s 2).cast nbuf0_2)) (spec0_3.stage (s 3)) (hstage0_3 ((s 3).cast nbuf0_3))
        (spec0_4.stage (s 4)) (hstage0_4 ((s 4).cast nbuf0_4)) (spec0_5.stage (s 5)) (hstage0_5 ((s 5).cast nbuf0_5))
        (spec0_6.stage (s 6)) (hstage0_6 ((s 6).cast nbuf0_6)) (spec0_7.stage (s 7)) (hstage0_7 ((s 7).cast nbuf0_7))
        (spec0_8.stage (s 8)) (hstage0_8 ((s 8).cast nbuf0_8)) (grid0.coords t) := by
  unfold defs₀; rw [Defs.onTc_tc]

end Cert.Proof.PI

end
-- ==== Proof.PI.Forget.lean ====
/-
  The kernel runs to the end without fault and leaves its arguments as they were: the region's proof data name what the input
  windows hold and leave the results open.
-/
module

public import proofs.«01_k».proof.Proof.PI.Blocks
public import proofs.«01_k».proof.Proof.Gen.KernelIdeal.Launch
public import Idealize.ShloMosaic.Lib.Pipeline.FrameBody
public import Idealize.ShloMosaic.Lib.Pipeline.FrameSuffix
public import Idealize.ShloMosaic.Lib.Claim

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two results' windows, of which these proof data say nothing. -/
abbrev outs : Fin 9 → Bool := fun | 0 => false | 1 => false | 2 => false | 3 => false | 4 => false | 5 => false | 6 => false | 7 => true | 8 => true

/-- The region's proof data: every window's array as the region finds it, every input left in place, what passes between
    steps with nothing said of the hidden states' gradient. -/
def datsF (_ : Fin 1) (c : Dev nD) : Dat τ (Elt F) Unit ℕ (UR sig nD τ) ℕ (cfgA m) c where
  A w := V m c (Pipeline.arrRef spec0 w)
  after w t := fetched m c w t (anyOf m w)
  Φ t := PhiAt m (fun _ _ => True) c t.val
  q _ := fullShare
  owed _ := 0

theorem datsF_A (c : Dev nD) (w : Fin (cfgA m).W) : (datsF m 0 c).A w = V m c (Pipeline.arrRef spec0 w) := by dsimp only [datsF]
theorem datsF_after (c : Dev nD) (w : Fin (cfgA m).W) (t) : (datsF m 0 c).after w t = fetched m c w t (anyOf m w) := by dsimp only [datsF]

theorem datsF_0 (c : Dev nD) (t d) : (datsF m 0 c).before 0 t d = fetched m c 0 t d :=
  before_of m _ 0 (datsF_A m c 0) (datsF_after m c 0) rfl (fun _ => rfl) (clip_0 m) t d
theorem datsF_1 (c : Dev nD) (t d) : (datsF m 0 c).before 1 t d = fetched m c 1 t d :=
  before_of m _ 1 (datsF_A m c 1) (datsF_after m c 1) rfl (fun _ => rfl) (clip_1 m) t d
theorem datsF_2 (c : Dev nD) (t d) : (datsF m 0 c).before 2 t d = (V m c main_v3 : Vec F S2560x896 .fp8e4m3) :=
  (before_of m _ 2 (datsF_A m c 2) (datsF_after m c 2) rfl (fun _ => rfl) (fun _ _ _ => rfl) t d).trans (fetched_2 m c t d)
theorem datsF_3 (c : Dev nD) (t d) : (datsF m 0 c).before 3 t d = (V m c main_v4 : Vec F S1x2560 .f32) :=
  (before_of m _ 3 (datsF_A m c 3) (datsF_after m c 3) rfl (fun _ => rfl) (fun _ _ _ => rfl) t d).trans (fetched_3 m c t d)
theorem datsF_4 (c : Dev nD) (t d) : (datsF m 0 c).before 4 t d = fetched m c 4 t d :=
  before_of m _ 4 (datsF_A m c 4) (datsF_after m c 4) rfl (fun _ => rfl) (clip_4 m) t d
theorem datsF_5 (c : Dev nD) (t d) : (datsF m 0 c).before 5 t d = fetched m c 5 t d :=
  before_of m _ 5 (datsF_A m c 5) (datsF_after m c 5) rfl (fun _ => rfl) (clip_5 m) t d
theorem datsF_6 (c : Dev nD) (t d) : (datsF m 0 c).before 6 t d = (V m c main_v6 : Vec F S2560x896 .bf16) :=
  (before_of m _ 6 (datsF_A m c 6) (datsF_after m c 6) rfl (fun _ => rfl) (fun _ _ _ => rfl) t d).trans (fetched_6 m c t d)

/-- The staging buffer of window `w` at step `t`. -/
abbrev stg (t : Fin (cfgA m).N) (w : Fin (cfgA m).W) := ((cfgA m).win w).stage ((cfgA m).slots t w)

/-- A window a transfer may cut, left as it was found, is left as the proof data ask. -/
theorem keep (c : Dev nD) (t : Fin (cfgA m).N) (w : Fin (cfgA m).W) (d X)
    (hX : X = fetched m c w t (anyOf m w)) :
    (owns (c : Thread nD τ) (stg m t w) fullShare (fetched m c w t d) : sProp 𝕄)
      ⊢ iprop(∃ d, owns (c : Thread nD τ) (stg m t w) fullShare (((cfgA m).win w).fill ((cfgA m).grid.coords t) d (((cfgA m).win w).cut ((cfgA m).grid.coords t) X))) := by
  subst hX
  rw [Window.cut_fill]
  iintro H; iexists d; iexact H

/-- What the body is called with at step `t`, window by window, -/
def preF (c : Dev nD) (t : Fin (cfgA m).N) : sProp 𝕄 :=
  iprop((datsF m 0 c).Φ t.castSucc ∗ (datsF m 0 c).owesAt () t.castSucc
    ∗ (∃ d, owns (c : Thread nD τ) (stg m t 0) fullShare ((datsF m 0 c).before 0 t d))
    ∗ (∃ d, owns (c : Thread nD τ) (stg m t 1) fullShare ((datsF m 0 c).before 1 t d))
    ∗ (∃ d, owns (c : Thread nD τ) (stg m t 2) fullShare ((datsF m 0 c).before 2 t d))
    ∗ (∃ d, owns (c : Thread nD τ) (stg m t 3) fullShare ((datsF m 0 c).before 3 t d))
    ∗ (∃ d, owns (c : Thread nD τ) (stg m t 4) fullShare ((datsF m 0 c).before 4 t d))
    ∗ (∃ d, owns (c : Thread nD τ) (stg m t 5) fullShare ((datsF m 0 c).before 5 t d))
    ∗ (∃ d, owns (c : Thread nD τ) (stg m t 6) fullShare ((datsF m 0 c).before 6 t d))
    ∗ (∃ X, owns (c : Thread nD τ) (stg m t 7) fullShare X)
    ∗ (∃ X, owns (c : Thread nD τ) (stg m t 8) fullShare X))

/-- and what it returns. -/
def postF (c : Dev nD) (t : Fin (cfgA m).N) : sProp 𝕄 :=
  iprop((datsF m 0 c).Φ t.succ ∗ (datsF m 0 c).owesAt () t.succ
    ∗ (∃ d, owns (c : Thread nD τ) (stg m t 0) fullShare (((cfgA m).win 0).fill ((cfgA m).grid.coords t) d (((cfgA m).win 0).cut ((cfgA m).grid.coords t) ((datsF m 0 c).after 0 t))))
    ∗ (∃ d, owns (c : Thread nD τ) (stg m t 1) fullShare (((cfgA m).win 1).fill ((cfgA m).grid.coords t) d (((cfgA m).win 1).cut ((cfgA m).grid.coords t) ((datsF m 0 c).after 1 t))))
    ∗ owns (c : Thread nD τ) (stg m t 2) fullShare ((datsF m 0 c).after 2 t)
    ∗ owns (c : Thread nD τ) (stg m t 3) fullShare ((datsF m 0 c).after 3 t)
    ∗ (∃ d, owns (c : Thread nD τ) (stg m t 4) fullShare (((cfgA m).win 4).fill ((cfgA m).grid.coords t) d (((cfgA m).win 4).cut ((cfgA m).grid.coords t) ((datsF m 0 c).after 4 t))))
    ∗ (∃ d, owns (c : Thread nD τ) (stg m t 5) fullShare (((cfgA m).win 5).fill ((cfgA m).grid.coords t) d (((cfgA m).win 5).cut ((cfgA m).grid.coords t) ((datsF m 0 c).after 5 t))))
    ∗ owns (c : Thread nD τ) (stg m t 6) fullShare ((datsF m 0 c).after 6 t)
    ∗ (∃ X, owns (c : Thread nD τ) (stg m t 7) fullShare X)
    ∗ (∃ X, owns (c : Thread nD τ) (stg m t 8) fullShare X))

/-- The body at any step. -/
theorem bodyF (c : Dev nD) (hv : InVocab (tbl m c)) (t : Fin (cfgA m).N) :
    preF m c t ⊢ wp frame (wpE (defs₀ (F := F)) 𝒱₀ (c : Thread nD τ) none) Set.univ
      (defs₀ (F := F) .tc (cfgA m).body ((cfgA m).bodyArgs t ((cfgA m).slots t))) (fun _ => postF m c t) := by
  rw [defs₀_row]
  unfold preF postF
  simp only [datsF_0, datsF_1, datsF_2, datsF_3, datsF_4, datsF_5, datsF_6]
  rw [show (datsF m 0 c).Φ t.castSucc = PhiAt m (fun _ _ => True) c t.val from rfl,
    show (datsF m 0 c).Φ t.succ = PhiAt m (fun _ _ => True) c (t.val + 1) from rfl,
    show (datsF m 0 c).owesAt () t.succ = (datsF m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩, ⟨%X8, H8⟩⟩
  iapply (point m _ _ _ _ _ _ _ _ _ _ _ _ _ _ _ _ _ _ c (fetched m c 0 t d0) (fetched m c 1 t d1) (fetched m c 4 t d4) (fetched m c 5 t d5)
    hv (fun _ _ => True) t (fun _ _ => trivial) X7 X8 _)
  isplitr [Ho]
  · isplitl [HΦ]; · iexact HΦ
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  iintro ⟨HΦ, ⟨H0, H1, H2, H3, H4, H5, H6⟩, H7, ⟨%X, -, H8⟩⟩
  isplitl [HΦ]; · iexact HΦ
  isplitl [Ho]; · iexact Ho
  isplitl [H0]; · iapply (keep m c t 0 d0 _ (datsF_after m c 0 t)); iexact H0
  isplitl [H1]; · iapply (keep m c t 1 d1 _ (datsF_after m c 1 t)); iexact H1
  isplitl [H2]; · rw [datsF_after m c 2 t, fetched_2]; iexact H2
  isplitl [H3]; · rw [datsF_after m c 3 t, fetched_3]; iexact H3
  isplitl [H4]; · iapply (keep m c t 4 d4 _ (datsF_after m c 4 t)); iexact H4
  isplitl [H5]; · iapply (keep m c t 5 d5 _ (datsF_after m c 5 t)); iexact H5
  isplitl [H6]; · rw [datsF_after m c 6 t, fetched_6]; iexact H6
  isplitl [H7]; · iexists _; iexact H7
  iexists X; iexact H8

/-- The library's body obligation with the results forgotten. -/
theorem obligationF (c : Dev nD) (hv : InVocab (tbl m c)) : BodyObligationLoose (datsF (F := F) m 0 c) (defs₀ (F := F)) 𝒱₀ () Set.univ outs := fun t => by
  rw [bigSep_W0, bigSep_W0]
  exact triple_restated (bodyF m c hv t) rfl .rfl fun _ => .rfl

end Cert.Proof.PI

end
-- ==== Proof.PI.Frame.lean ====
/-
  The run of the kernel's @main with the results left open, and its frame.
-/
module

public import proofs.«01_k».proof.Proof.PI.Forget
public import proofs.«01_k».proof.Proof.Gen.KernelIdeal.Launch
public import Idealize.ShloMosaic.Lib.Pipeline.FrameBody
public import Idealize.ShloMosaic.Lib.Pipeline.FrameSuffix
public import Idealize.ShloMosaic.Lib.Claim

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer at known contents is the buffer's points-to. -/
theorem owns_whole (c : Thread nD τ) (b : Ref sig c.2.kind) (q) (X : b.ty.Contents (Elt F)) :
    (owns c (Memref.whole b) q X : sProp 𝕄) = ((c.loc b) ↦{q} X) := by
  rw [owns_whole_eq]
  refine equiv_iff.mp ⟨?_, ?_⟩
  · show iprop(∃ f : Buf (Elt F) (c.loc b), ⌜f = X⌝ ∗ ((c.loc b) ↦{q} f)) ⊢ _
    iintro ⟨%f, %hf, H⟩
    subst hf; iexact H
  · show _ ⊢ iprop(∃ f : Buf (Elt F) (c.loc b), ⌜f = X⌝ ∗ ((c.loc b) ↦{q} f))
    iintro H
    iexists X
    isplitr
    · ipureintro; rfl
    iexact H

/-- The table's half share, as the launch hands it over. -/
theorem table_eq (c : Dev nD) :
    (Pipeline.ΦT (U := UR sig nD τ) (τ := τ) pre0 (adm m 0).1 c : sProp 𝕄) = owns (c : Thread nD τ) (Memref.whole main_v0) fullShare.right (tbl m c) := by
  rw [owns_whole]
  show Pipeline.prefHeld pre0 c (fun _ => fullShare.right) (adm m 0).1 = _
  unfold Pipeline.prefHeld
  have hc : c = 0 := Subsingleton.elim _ _
  subst hc
  have : (Finset.univ : Finset (Fin pre0.K)) = {(0 : Fin 1)} := rfl
  rw [this, bigSep_singleton]
  rfl

/-- Entering the region: what the launch hands over is what precedes the first step. -/
theorem enter (P : ℕ → Vec F S896x2560 .f32 → Prop) (c : Dev nD) :
    iprop(Pipeline.ΦA (U := UR sig nD τ) (τ := τ) (Val := Elt F) spec0 c ∗ Pipeline.ΦT (U := UR sig nD τ) (τ := τ) pre0 (adm m 0).1 c) ⊢ PhiAt m P c 0 := by
  rw [table_eq, PhiAt_zero]
  unfold Pipeline.ΦA
  rw [scopedRest0_eq]
  simp only [owns_whole]
  iintro ⟨⟨⟨H0, H1, H2, H3, H4, H5⟩, Hp⟩, Ht⟩
  isplitl [Ht]; · iexact Ht
  isplitl [Hp]; · iexact Hp
  isplitl [H1]; · iexact H1
  isplitl [H0]; · iexact H0
  isplitl [H2]; · iexact H2
  isplitl [H3]; · iexact H3
  isplitl [H4]; · iexact H4
  iexact H5

/-- Leaving it. -/
theorem leave (P : ℕ → Vec F S896x2560 .f32 → Prop) (c : Dev nD) {t : ℕ} (ht : t ≠ 0) :
    PhiAt m P c t ⊢ Pipeline.ΦA (U := UR sig nD τ) (τ := τ) (Val := Elt F) spec0 c := by
  rw [PhiAt_pos m P c ht]
  unfold Pipeline.ΦA prepared
  rw [scopedRest0_eq]
  simp only [owns_whole]
  iintro ⟨-, Hp, H1, ⟨H0, H3, H4, H5⟩, ⟨%A, -, H2⟩⟩
  isplitr [Hp]
  · isplitl [H0]; · iexists _; iexact H0
    isplitl [H1]; · iexact H1
    isplitl [H2]; · iexists _; iexact H2
    isplitl [H3]; · iexists _; iexact H3
    isplitl [H4]; · iexists _; iexact H4
    iexists _; iexact H5
  iexact Hp

/-- The table's contents are those the region is launched at. -/
theorem table_at (c : Dev nD) (k : Fin pre0.K) : V0 m c (Proc.devRef .tc (pre0.ref k)) = (adm m 0).1 k := by
  have hc : c = 0 := Subsingleton.elim _ _
  subst hc; rfl

set_option backward.isDefEq.respectTransparency.types false in
/-- The run: every fair execution terminates without fault, the inputs' arrays are as the region found them, so is every other buffer but
    the reshaped second result, and every semaphore counter is zero. -/
theorem runF (hv : ∀ c, InVocab (tbl m c)) : θ_run (defs (F := F)) (onTc (τ := τ) (main (F := F))) (s₀ m ρ) (fun r =>
    Pipeline.RDat.FramePostR (cfgA m) (fun c => (datsF m 0 c).toRForget outs) {main_v8} (fun c b => V0 m c (Proc.devRef .tc b)) r ∧ r.2.sem = fun _ => 0) :=
  Pipeline.θ_run_frameP_around_T_track_forget (Q' := _) pcfgs (adm m) (datsF m) 0 launch0 defs₀ 𝒱₀ outs {main_v8} m ρ main
    (hbody := fun c => obligationF m c (hv c)) (hshare := fun c => (datsF m 0 c).share_full fun _ => rfl)
    (howed := fun _ _ => rfl) (V₀ := V0 m) (opss := [hostOps1]) (hsub := sfx_sub) (hfresh := sfx_fresh) (hkeep := sfx_keeps)
    (hT := sfx_writes) (hmain := hmain m) (hA := datsF_A m) (hpf := table_at m) (hin := enter m (fun _ _ => True)) (hout := fun c => leave m (fun _ _ => True) c (t := 594) (by decide))
    (hQ' := fun _ h => h)

/-- The table is the token ids, so the precondition bounds it. -/
theorem table_in_vocab (c : Dev nD) (h : ∀ j, (m ((c.tc : Thread nD τ).loc main_arg6) j : BitVec 32).toNat < 151936) : InVocab (tbl m c) :=
  fun n => h _

/-- The frame: the kernel runs to the end without fault, its arguments end unchanged and every counter ends at zero. -/
theorem frame (hv : ∀ c : Dev nD, ∀ j, (m ((c.tc : Thread nD τ).loc main_arg6) j : BitVec 32).toNat < 151936) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩) (runF m ρ fun c => table_in_vocab m c (hv c))
  obtain ⟨h, -⟩ := h
  have rest : ∀ b : Ref sig .tc, b ∈ Pipeline.restRefs sig spec0 \ {main_v8} → r.2.mem ((c.tc : Thread nD τ).loc b) = V0 m c (Proc.devRef .tc b) := (h c).2
  refine ⟨rest _ ?_, rest _ ?_, rest _ ?_, rest _ ?_, ?_, rest _ ?_, rest _ ?_, rest _ ?_⟩
  rotate_left 4
  · exact (Pipeline.RDat.FramePostR.arr_in h c 4 rfl).trans rfl
  all_goals exact Finset.mem_sdiff.mpr ⟨Pipeline.mem_restRefs_of _ (by decide) (by decide), by decide⟩

end Cert.Proof.PI

end
-- ==== Proof.PI.Tile.lean ====
/-
  What one grid step computes over the extended reals: a row of the embedding's gradient as one sum over the tokens, and
  the hidden states' gradient as it grows by the block's columns.
-/
module

public import proofs.«01_k».proof.Proof.PI.Step
public import Idealize.ShloMosaic.PureOps.Ideal.Laws
public import Idealize.ShloMosaic.Lib.MatmulPlain
public import Idealize.ShloMosaic.Lib.ValueIdx
public import Idealize.ShloMosaic.Lib.IdealHost

@[expose] public section

noncomputable section

namespace Cert.Proof.PI

open Cert.KernelIdeal Cert.KernelIdeal.Gen
open Idealize.ShloMosaic Idealize.ShloMosaic.TcCoe
open Cert.Proof.Own Cert.Proof.Chain
open Finset
open Idealize.ShloMosaic.ValueIdx (ix2 eq_ix2)

/-- The row of scales of token `n`: one for every 128 tokens. -/
def rowOf (n : Fin 2560) : Fin 20 := ⟨n.val / 128, Nat.div_lt_of_lt_mul n.isLt⟩

/-- The rows added to row `v` of the embedding's gradient: those of the tokens that are `v`. -/
theorem walk_addRow (tbl : Vec Ideal S2560 .i32) (X14 : Vec Ideal S2560x896 .f32) (v : ℕ) (y : S256x896.Idx) :
    ∀ (n : ℕ) (hn : n ≤ 2560) (X : Vec Ideal S256x896 .f32),
      (walk (tileNo tbl) v (addRow tbl X14) n X y : EReal) = (X y : EReal)
        + ∑ k ∈ range n, if h : k < 2560 then (if BitVec.toNat (tbl (ix1 ⟨k, h⟩) : BitVec 32) = 256 * v + (y 0).val then (X14 (ix ⟨k, h⟩ (y 1)) : EReal) else 0) else 0
  | 0, _, X => by simp [walk_zero]
  | n + 1, hn, X => by
    have h : n < 2560 := hn
    have hy : (y 0).val < 256 := (y 0).isLt
    rw [sum_range_succ, dif_pos h, add_comm (∑ k ∈ range n, _), ← add_assoc]
    by_cases ht : tileNo tbl n = v
    · rw [walk_self ht, walk_addRow tbl X14 v y n (by omega)]
      congr 1
      unfold addRow
      rw [dif_pos h]
      unfold tileNo at ht
      rw [dif_pos h] at ht
      by_cases hr : (y 0).val = BitVec.toNat (tbl (ix1 ⟨n, h⟩) : BitVec 32) % 256
      · rw [if_pos hr, if_pos (by omega)]; rfl
      · rw [if_neg hr, if_neg (by omega), add_zero]
    · rw [walk_other ht, walk_addRow tbl X14 v y n (by omega)]
      congr 1
      unfold tileNo at ht
      rw [dif_pos h] at ht
      rw [if_neg (by omega), add_zero]

theorem ix_ix2 {m n : ℕ} (a : Fin m) (b : Fin n) : ix a b = ix2 a b := funext fun | 0 => rfl | 1 => rfl

/-- The columns left for the block, as a word. -/
theorem left_word {i : ℕ} (hi : i < 594) : (151936#32 - BitVec.ofNat 32 i * 256#32 : BitVec 32) = BitVec.ofNat 32 (151936 - 256 * i) :=
  BitVec.eq_of_toNat_eq (by
    simp only [BitVec.toNat_sub, BitVec.toNat_mul, BitVec.toNat_ofNat]
    omega)

/-- The mask is on in the columns inside the vocabulary, and off outside. -/
theorem mask_eq (i : grid0.Coords) (b : Fin 256) : k0_pay28 i (ix 0 b) = BitVec.ofBool (decide (256 * (i 0).val + b.val < 151936)) := by
  have hi : (i 0).val < 594 := (i 0).isLt
  have hb := b.isLt
  unfold k0_pay28
  show IntOp.cmpi .slt (iota .tc S1x256 32 [1] iota_S1x256_d1_w32 (ix 0 b)) (151936#32 - BitVec.ofNat 32 (i 0).val * 256#32) = _
  rw [left_word hi]
  rw [iota_single_apply .tc S1x256 32 1 iota_S1x256_d1_w32]
  show IntOp.cmpi .slt (BitVec.ofNat 32 b.val) _ = _
  show BitVec.ofBool (BitVec.slt _ _) = _
  rw [BitVec.slt_eq_decide, BitVec.toInt_eq_toNat_of_lt (by rw [BitVec.toNat_ofNat]; omega),
    BitVec.toInt_eq_toNat_of_lt (by rw [BitVec.toNat_ofNat]; omega), BitVec.toNat_ofNat, BitVec.toNat_ofNat]
  congr 2
  apply propext
  omega

theorem mask_on (i : grid0.Coords) (b : Fin 256) (h : 256 * (i 0).val + b.val < 151936) : k0_pay28 i (ix 0 b) = 1#1 := by
  rw [mask_eq, decide_eq_true h]; rfl
theorem mask_off (i : grid0.Coords) (b : Fin 256) (h : ¬256 * (i 0).val + b.val < 151936) : k0_pay28 i (ix 0 b) = 0#1 := by
  rw [mask_eq, decide_eq_false h]; rfl

/-- A decoded gradient under the mask: code times scale, -/
theorem dlEl_on (code : Ideal .fp8e5m2) (s : Ideal .f32) : (dlEl 1#1 code s : EReal) = (code : EReal) * s := rfl
/-- and zero. -/
theorem dlEl_off (code : Ideal .fp8e5m2) (s : Ideal .f32) : (dlEl 0#1 code s : EReal) = 0 := by
  show (Ideal.ofBits .fp8e5m2 0x00#8 : EReal) * (Ideal.ofBits .f32 0x00000000#32 : EReal) = 0
  rw [Ideal.ofBits_zero_f32, mul_zero]

/-- The block's product, at a row and a column. -/
theorem prod_value (H : Vec Ideal S896x2560 .bf16) (D : Vec Ideal S2560x256 .bf16) (r : Fin 256) (d : Fin 896) :
    (k0_pay1 H D (ix r d) : EReal) = ∑ n : Fin 2560, (H (ix d n) : EReal) * D (ix n r) := by
  unfold k0_pay1
  rw [ix_ix2]
  refine (transpose_apply _ _ _ (ix2 r d) (ix2 d r) (by intro a; fin_cases a <;> rfl)).trans ?_
  refine (Ideal.matmul_plain_apply (M := 896) (K := 2560) (N := 256) none H D _ d r).trans ?_
  simp only [ix_ix2]
  show (Ideal.ofBits .f32 0x00000000#32 : EReal) + _ = _
  rw [Ideal.ofBits_zero_f32, zero_add]

/-- Row `v = 256 i + r` of the embedding's gradient: the logit gradients times the hidden states, summed over the tokens,
    and the rows of the tokens that are `v`. -/
theorem tile_value (i : grid0.Coords) (tbl : Vec Ideal S2560 .i32) (X2 : Vec Ideal S2560x256 .fp8e5m2) (X3 : Vec Ideal S20x256 .f32)
    (X4 : Vec Ideal S2560x896 .fp8e4m3) (X5 : Vec Ideal S1x2560 .f32) (X8 : Vec Ideal S2560x896 .bf16) (r : Fin 256) (d : Fin 896)
    (h : 256 * (i 0).val + r.val < 151936) :
    (tileAfter i tbl X2 X3 X4 X5 X8 (ix r d) : EReal)
      = (∑ n : Fin 2560, ((X4 (ix n d) : EReal) * X5 (ix 0 n)) * ((X2 (ix n r) : EReal) * X3 (ix (rowOf n) r)))
        + ∑ n : Fin 2560, if BitVec.toNat (tbl (ix1 n) : BitVec 32) = 256 * (i 0).val + r.val then (X8 (ix n d) : EReal) else 0 := by
  unfold tileAfter tileOf
  refine (walk_addRow tbl _ _ (ix r d) 2560 le_rfl _).trans ?_
  refine congrArg₂ (· + ·) ?_ ?_
  · rw [prod_value]
    refine sum_congr rfl fun n _ => ?_
    refine congrArg₂ (· * ·) rfl ?_
    show (dlEl (F := Ideal) (k0_pay28 i (ix 0 r)) (X2 (ix n r)) (X3 (ix (rowOf n) r)) : EReal) = _
    rw [mask_on i r h, dlEl_on]
  · rw [sum_range]
    refine sum_congr rfl fun n _ => ?_
    rw [dif_pos n.isLt]
    unfold k0_pay27
    rw [shapeCast_self, shapeCast_self]
    rfl

/-- The block's scales under the mask, where it is on. -/
theorem scale_on (v7 : IVec S1x256 1) (X7 : Vec Ideal S1x256 .f32) (b : Fin 256) (h : v7 (ix 0 b) = 1#1) :
    (truncf (F := Ideal) .bf16 (select v7 X7 (broadcast S1x256 (Scalar.ofBits (F := Ideal) .f32 0x00000000#32))) bitsLt_bf16_f32 (ix 0 b) : EReal) = X7 (ix 0 b) := by
  show (if v7 (ix 0 b) = 1#1 then X7 (ix 0 b) else _) = _
  rw [if_pos h]

/-- What column `b` of a block adds to the hidden states' gradient at `d`, `n`; a column outside the vocabulary adds nothing. -/
def colTerm (i : grid0.Coords) (X2 : Vec Ideal S2560x256 .fp8e5m2) (X3 : Vec Ideal S20x256 .f32) (X6 : Vec Ideal S256x896 .i8) (X7 : Vec Ideal S1x256 .f32)
    (d : Fin 896) (n : Fin 2560) (b : Fin 256) : EReal :=
  if 256 * (i 0).val + b.val < 151936 then
    (((BitVec.toInt (X6 (ix b d) : BitVec 8) : ℝ) : EReal) * X7 (ix 0 b)) * ((X2 (ix n b) : EReal) * X3 (ix (rowOf n) b))
  else 0

/-- The hidden states' gradient after a step: what it was, and the block's columns' terms. -/
theorem acc_value (i : grid0.Coords) (X2 : Vec Ideal S2560x256 .fp8e5m2) (X3 : Vec Ideal S20x256 .f32) (X6 : Vec Ideal S256x896 .i8)
    (X7 : Vec Ideal S1x256 .f32) (A : Vec Ideal S896x2560 .f32) (d : Fin 896) (n : Fin 2560) :
    (accAfter (F := Ideal) i X2 X3 X6 X7 A (ix d n) : EReal) = (acc0 (F := Ideal) i A (ix d n) : EReal) + ∑ b : Fin 256, colTerm i X2 X3 X6 X7 d n b := by
  unfold accAfter k0_pay2
  rw [shapeCast_self]
  refine congrArg₂ (· + ·) rfl ?_
  rw [ix_ix2]
  refine (Ideal.matmul_transposedRhs_apply (M := 896) (K := 256) (N := 2560) none _ _ _ d n).trans ?_
  show (Ideal.ofBits .f32 0x00000000#32 : EReal) + _ = _
  rw [Ideal.ofBits_zero_f32, zero_add]
  refine sum_congr rfl fun b _ => ?_
  have hD : (DL (k0_pay28 i) X2 X3 (ix2 n b) : EReal) = dlEl (F := Ideal) (k0_pay28 i (ix 0 b)) (X2 (ix n b)) (X3 (ix (rowOf n) b)) := by
    rw [← ix_ix2]; rfl
  rw [hD]
  unfold colTerm
  by_cases h : 256 * (i 0).val + b.val < 151936
  · rw [if_pos h, mask_on i b h, dlEl_on]
    refine congrArg₂ (· * ·) ?_ rfl
    show (_ : EReal) * _ = _
    refine congrArg₂ (· * ·) ?_ ?_
    · refine (transpose_apply _ _ _ (ix2 d b) (ix2 b d) (by intro a; fin_cases a <;> rfl)).trans ?_
      rw [← ix_ix2]; rfl
    · refine (broadcastTo_apply (s := S1x256) (t := S896x256) _ _ (ix2 d b) (ix2 (0 : Fin 1) b) (by intro a; fin_cases a <;> rfl)).trans ?_
      rw [← ix_ix2, shapeCast_self]
      exact scale_on _ X7 b (mask_on i b h)
  · rw [if_neg h, mask_off i b h, dlEl_off, mul_zero]

/-- The first step begins at zero. -/
theorem acc0_first (i : grid0.Coords) (h : k0_cond1 i = 1#1) (A : Vec Ideal S896x2560 .f32) (y) : (acc0 i A y : EReal) = 0 := by
  unfold acc0
  rw [if_pos h]
  unfold k0_pay26
  rw [shapeCast_self]
  exact Ideal.ofBits_zero_f32

theorem acc0_later (i : grid0.Coords) (h : ¬k0_cond1 i = 1#1) (A : Vec Ideal S896x2560 .f32) : acc0 i A = A := if_neg h

end Cert.Proof.PI

end
-- ==== Proof.PI.Staged.lean ====
/-
  One grid step over the extended reals, in the arrays' own rows and columns: the block of the embedding's gradient that
  step `t` leaves, and the hidden states' gradient after `t` steps as the sum over the vocabulary's first `256 t` columns.
-/
module

public import proofs.«01_k».proof.Proof.PI.Tile
public import proofs.«01_k».proof.Proof.PI.Blocks

@[expose] public section

noncomputable section

namespace Cert.Proof.PI

open Cert.KernelIdeal Cert.KernelIdeal.Gen
open Idealize.ShloMosaic Idealize.ShloMosaic.TcCoe
open Idealize.ShloMosaic.Pipeline (Window)
open Cert.Proof.Own Cert.Proof.Chain
open Finset

variable (m : (ℓ : Loc nD τ sig) → Buf (Elt Ideal) ℓ) (c : Dev nD)

/-! The arrays as the region finds them. -/
/-- The logit gradients' codes. -/
def gCodes : Vec Ideal S2560x151936 .fp8e5m2 := V m c main_v1
/-- Their scales. -/
def gScales : Vec Ideal S20x151936 .f32 := V m c main_v2
/-- The hidden states' codes. -/
def hCodes : Vec Ideal S2560x896 .fp8e4m3 := V m c main_v3
/-- Their scales. -/
def hScales : Vec Ideal S1x2560 .f32 := V m c main_v4
/-- The embedding's codes. -/
def eCodes : Vec Ideal S151936x896 .i8 := V m c main_arg4
/-- Their scales. -/
def eScales : Vec Ideal S1x151936 .f32 := V m c main_v5
/-- The rows added at the tokens. -/
def rows : Vec Ideal S2560x896 .bf16 := V m c main_v6

/-- The decoded logit gradient of token `n` at vocabulary entry `v`. -/
def dlog (n : Fin 2560) (v : Fin 151936) : EReal :=
  (gCodes m c (ix n v) : EReal) * gScales m c (ix (rowOf n) v)
/-- The decoded hidden state of token `n`. -/
def hid (n : Fin 2560) (d : Fin 896) : EReal :=
  (hCodes m c (ix n d) : EReal) * hScales m c (ix 0 n)
/-- The decoded embedding. -/
def emb (v : Fin 151936) (d : Fin 896) : EReal :=
  ((BitVec.toInt (eCodes m c (ix v d) : BitVec 8) : ℝ) : EReal) * eScales m c (ix 0 v)
/-- The row that token `n` adds to its entry of the embedding's gradient. -/
def row (n : Fin 2560) (d : Fin 896) : EReal := rows m c (ix n d)

/-- The embedding's gradient. -/
def gradE (v : Fin 151936) (d : Fin 896) : EReal :=
  (∑ n : Fin 2560, hid m c n d * dlog m c n v) + ∑ n : Fin 2560, if BitVec.toNat (tbl m c (ix1 n) : BitVec 32) = v.val then row m c n d else 0

/-- What vocabulary entry `v` adds to the hidden states' gradient; nothing past the vocabulary. -/
def termH (d : Fin 896) (n : Fin 2560) (v : ℕ) : EReal := if h : v < 151936 then emb m c ⟨v, h⟩ d * dlog m c n ⟨v, h⟩ else 0

/-- The hidden states' gradient after the first `t` blocks. -/
def accH (t : ℕ) (A : Vec Ideal S896x2560 .f32) : Prop := ∀ d n, (A (ix d n) : EReal) = ∑ v ∈ range (256 * t), termH m c d n v

/-- The step's number as a word reads back. -/
theorem word_coord (t : Fin grid0.N) : (BitVec.ofNat 32 (grid0.coords t 0).val).toNat = t.val := by
  have ht : t.val < 594 := t.isLt
  rw [BitVec.toNat_ofNat, coords_val]
  omega

theorem lt_extent {i k d j : ℕ} (h : j < k) (h' : i * k + j < d) : j < (Pipeline.Clip.of i k d).extent k := by
  unfold Pipeline.Clip.of
  split
  · exact h
  · show j < d - i * k
    omega

variable (t : Fin (cfgA m).N)

theorem at_0 (d) (n : Fin 2560) (b : Fin 256) (v : Fin 151936) (hv : 256 * t.val + b.val = v.val) :
    (fetched m c 0 t d : Vec Ideal S2560x256 .fp8e5m2) (ix n b) = gCodes m c (ix n v) := by
  have hw := word_coord t
  have hm : ((cfgA m).win 0).moved ((cfgA m).grid.coords t) (ix n b) = true := (((cfgA m).win 0).moved_iff _ _).mpr fun a => by
    fin_cases a
    · have h : n.val < (Pipeline.Clip.of 0 2560 2560).extent 2560 := lt_extent n.isLt (by have := n.isLt; omega)
      exact h
    · have h : b.val < (Pipeline.Clip.of (BitVec.ofNat 32 (grid0.coords t 0).val).toNat 256 151936).extent 256 :=
        lt_extent b.isLt (by rw [hw]; have := v.isLt; omega)
      exact h
  unfold fetched Window.fill
  rw [dif_pos hm]
  show gCodes m c _ = _
  refine congrArg _ (ix_eq _ _ _ ?_ ?_)
  · show cc0_transform_0 (grid0.coords t) 0 * S2560x256.size 0 + 1 * n.val = n.val
    rw [show cc0_transform_0 (grid0.coords t) 0 = 0 from rfl]; omega
  · show (BitVec.ofNat 32 (grid0.coords t 0).val).toNat * 256 + 1 * b.val = v.val
    rw [hw]; omega

theorem at_1 (d) (n : Fin 20) (b : Fin 256) (v : Fin 151936) (hv : 256 * t.val + b.val = v.val) :
    (fetched m c 1 t d : Vec Ideal S20x256 .f32) (ix n b) = gScales m c (ix n v) := by
  have hw := word_coord t
  have hm : ((cfgA m).win 1).moved ((cfgA m).grid.coords t) (ix n b) = true := (((cfgA m).win 1).moved_iff _ _).mpr fun a => by
    fin_cases a
    · have h : n.val < (Pipeline.Clip.of 0 20 20).extent 20 := lt_extent n.isLt (by have := n.isLt; omega)
      exact h
    · have h : b.val < (Pipeline.Clip.of (BitVec.ofNat 32 (grid0.coords t 0).val).toNat 256 151936).extent 256 :=
        lt_extent b.isLt (by rw [hw]; have := v.isLt; omega)
      exact h
  unfold fetched Window.fill
  rw [dif_pos hm]
  show gScales m c _ = _
  refine congrArg _ (ix_eq _ _ _ ?_ ?_)
  · show 0 * 20 + 1 * n.val = n.val
    omega
  · show (BitVec.ofNat 32 (grid0.coords t 0).val).toNat * 256 + 1 * b.val = v.val
    rw [hw]; omega

theorem at_4 (d) (b : Fin 256) (n : Fin 896) (v : Fin 151936) (hv : 256 * t.val + b.val = v.val) :
    (fetched m c 4 t d : Vec Ideal S256x896 .i8) (ix b n) = eCodes m c (ix v n) := by
  have hw := word_coord t
  have hm : ((cfgA m).win 4).moved ((cfgA m).grid.coords t) (ix b n) = true := (((cfgA m).win 4).moved_iff _ _).mpr fun a => by
    fin_cases a
    · have h : b.val < (Pipeline.Clip.of (BitVec.ofNat 32 (grid0.coords t 0).val).toNat 256 151936).extent 256 :=
        lt_extent b.isLt (by rw [hw]; have := v.isLt; omega)
      exact h
    · have h : n.val < (Pipeline.Clip.of 0 896 896).extent 896 := lt_extent n.isLt (by have := n.isLt; omega)
      exact h
  unfold fetched Window.fill
  rw [dif_pos hm]
  show eCodes m c _ = _
  refine congrArg _ (ix_eq _ _ _ ?_ ?_)
  · show (BitVec.ofNat 32 (grid0.coords t 0).val).toNat * 256 + 1 * b.val = v.val
    rw [hw]; omega
  · show 0 * 896 + 1 * n.val = n.val
    omega

theorem at_5 (d) (b : Fin 256) (v : Fin 151936) (hv : 256 * t.val + b.val = v.val) :
    (fetched m c 5 t d : Vec Ideal S1x256 .f32) (ix 0 b) = eScales m c (ix 0 v) := by
  have hw := word_coord t
  have hm : ((cfgA m).win 5).moved ((cfgA m).grid.coords t) (ix 0 b) = true := (((cfgA m).win 5).moved_iff _ _).mpr fun a => by
    fin_cases a
    · have h : 0 < (Pipeline.Clip.of 0 1 1).extent 1 := lt_extent Nat.one_pos Nat.one_pos
      exact h
    · have h : b.val < (Pipeline.Clip.of (BitVec.ofNat 32 (grid0.coords t 0).val).toNat 256 151936).extent 256 :=
        lt_extent b.isLt (by rw [hw]; have := v.isLt; omega)
      exact h
  unfold fetched Window.fill
  rw [dif_pos hm]
  show eScales m c _ = _
  refine congrArg _ (ix_eq _ _ _ ?_ ?_)
  · rfl
  · show (BitVec.ofNat 32 (grid0.coords t 0).val).toNat * 256 + 1 * b.val = v.val
    rw [hw]; omega

/-- The block that step `t` leaves, at a row inside the vocabulary. -/
theorem tile_at (d0 d1) (r : Fin 256) (d : Fin 896) (v : Fin 151936) (hv : 256 * t.val + r.val = v.val) :
    (tileAfter (F := Ideal) (grid0.coords t) (tbl m c) (fetched m c 0 t d0) (fetched m c 1 t d1) (V m c main_v3) (V m c main_v4) (V m c main_v6) (ix r d) : EReal)
      = gradE m c v d := by
  have h0 : (grid0.coords t 0).val = t.val := coords_val t
  refine (tile_value _ _ _ _ _ _ _ r d (by rw [h0]; have := v.isLt; omega)).trans ?_
  rw [h0, hv]
  unfold gradE
  refine congrArg₂ (· + ·) (sum_congr rfl fun n _ => ?_) rfl
  rw [at_0 m c t d0 n r v hv, at_1 m c t d1 (rowOf n) r v hv]
  rfl

/-- One step on from the gradient after `t` blocks is the gradient after `t + 1`. -/
theorem acc_step (d0 d1 d4 d5) (A : Vec Ideal S896x2560 .f32) (hA : t.val ≠ 0 → accH m c t.val A) :
    accH m c (t.val + 1) (accAfter (F := Ideal) (grid0.coords t) (fetched m c 0 t d0) (fetched m c 1 t d1) (fetched m c 4 t d4) (fetched m c 5 t d5) A) := by
  have h0 : (grid0.coords t 0).val = t.val := coords_val t
  intro d n
  rw [show 256 * (t.val + 1) = 256 * t.val + 256 from by omega, sum_range_add]
  refine (acc_value _ _ _ _ _ _ d n).trans ?_
  refine congrArg₂ (· + ·) ?_ ?_
  · by_cases ht : t.val = 0
    · rw [acc0_first _ ((cond1_iff t).mpr ht), ht]; rfl
    · rw [acc0_later _ fun h => ht ((cond1_iff t).mp h)]; exact hA ht d n
  · rw [sum_range]
    refine sum_congr rfl fun b _ => ?_
    unfold colTerm termH
    rw [h0]
    by_cases h : 256 * t.val + b.val < 151936
    · rw [if_pos h, dif_pos h, at_0 m c t d0 n b ⟨_, h⟩ rfl, at_1 m c t d1 (rowOf n) b ⟨_, h⟩ rfl, at_4 m c t d4 b d ⟨_, h⟩ rfl, at_5 m c t d5 b ⟨_, h⟩ rfl]
      rfl
    · rw [if_neg h, dif_neg h]

end Cert.Proof.PI

end
-- ==== Proof.PI.Exact.lean ====
/-
  The body at any step over the extended reals, with the results named: the block of the embedding's gradient, and at the last step the
  hidden states' gradient.
-/
module

public import proofs.«01_k».proof.Proof.PI.Staged
public import proofs.«01_k».proof.Proof.PI.Forget

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

local notation "𝕄" => MT nD τ sig Unit (Elt Ideal) ℕ (UR sig nD τ) ℕ

variable (m : (ℓ : Loc nD τ sig) → Buf (Elt Ideal) ℓ) (ρ : Dev nD → PrngReg)

/-- The embedding's gradient, as an array. -/
def outE (c : Dev nD) : Vec Ideal S151936x896 .f32 := fun j => gradE m c (j 0) (j 1)

/-- The hidden states' gradient, as an array. -/
def outH (c : Dev nD) : Vec Ideal S2560x896 .bf16 := fun j => ∑ v ∈ Finset.range (256 * 594), termH m c (j 1) (j 0) v

/-- What a step leaves in window `w`'s staging buffer: the inputs as found, the embedding's gradient's block, the hidden
    states' gradient. -/
def afterE (c : Dev nD) : (w : Fin (cfgA m).W) → (t : Fin (cfgA m).N) → ((cfgA m).win w).block.Idx → Elt Ideal ((cfgA m).win w).elt
  | ⟨0, _⟩, t => fetched m c 0 t (anyOf m 0)
  | ⟨1, _⟩, t => fetched m c 1 t (anyOf m 1)
  | ⟨2, _⟩, t => fetched m c 2 t (anyOf m 2)
  | ⟨3, _⟩, t => fetched m c 3 t (anyOf m 3)
  | ⟨4, _⟩, t => fetched m c 4 t (anyOf m 4)
  | ⟨5, _⟩, t => fetched m c 5 t (anyOf m 5)
  | ⟨6, _⟩, t => fetched m c 6 t (anyOf m 6)
  | ⟨7, _⟩, t => ((cfgA m).win 7).fill ((cfgA m).grid.coords t) (anyOf m 7) ((((cfgA m).win 7).blk t).view.read (Elt Ideal) (outE m c))
  | ⟨8, _⟩, _ => outH m c
  | ⟨_ + 9, h⟩, _ => absurd h (Nat.not_lt.2 (Nat.le_add_left _ _))

/-- The region's proof data with every result named. -/
def datsE (_ : Fin 1) (c : Dev nD) : Dat τ (Elt Ideal) Unit ℕ (UR sig nD τ) ℕ (cfgA m) c where
  A w := V m c (Pipeline.arrRef spec0 w)
  after w t := afterE m c w t
  Φ t := PhiAt m (accH m c) c t.val
  q _ := fullShare
  owed _ := 0

theorem datsE_A (c : Dev nD) (w : Fin (cfgA m).W) : (datsE m 0 c).A w = V m c (Pipeline.arrRef spec0 w) := by dsimp only [datsE]
theorem datsE_after (c : Dev nD) (w : Fin (cfgA m).W) (t) : (datsE m 0 c).after w t = afterE m c w t := by dsimp only [datsE]
theorem datsE_after_0 (c : Dev nD) (t) : (datsE m 0 c).after 0 t = fetched m c 0 t (anyOf m 0) := by rw [datsE_after]; rfl
theorem datsE_after_1 (c : Dev nD) (t) : (datsE m 0 c).after 1 t = fetched m c 1 t (anyOf m 1) := by rw [datsE_after]; rfl
theorem datsE_after_2 (c : Dev nD) (t) : (datsE m 0 c).after 2 t = fetched m c 2 t (anyOf m 2) := by rw [datsE_after]; rfl
theorem datsE_after_3 (c : Dev nD) (t) : (datsE m 0 c).after 3 t = fetched m c 3 t (anyOf m 3) := by rw [datsE_after]; rfl
theorem datsE_after_4 (c : Dev nD) (t) : (datsE m 0 c).after 4 t = fetched m c 4 t (anyOf m 4) := by rw [datsE_after]; rfl
theorem datsE_after_5 (c : Dev nD) (t) : (datsE m 0 c).after 5 t = fetched m c 5 t (anyOf m 5) := by rw [datsE_after]; rfl
theorem datsE_after_6 (c : Dev nD) (t) : (datsE m 0 c).after 6 t = fetched m c 6 t (anyOf m 6) := by rw [datsE_after]; rfl
theorem datsE_after_8 (c : Dev nD) (t) : (datsE m 0 c).after 8 t = outH m c := by rw [datsE_after]; rfl

theorem datsE_0 (c : Dev nD) (t d) : (datsE m 0 c).before 0 t d = fetched m c 0 t d :=
  before_of m _ 0 (datsE_A m c 0) (datsE_after_0 m c) rfl (fun _ => rfl) (clip_0 m) t d
theorem datsE_1 (c : Dev nD) (t d) : (datsE m 0 c).before 1 t d = fetched m c 1 t d :=
  before_of m _ 1 (datsE_A m c 1) (datsE_after_1 m c) rfl (fun _ => rfl) (clip_1 m) t d
theorem datsE_2 (c : Dev nD) (t d) : (datsE m 0 c).before 2 t d = (V m c main_v3 : Vec Ideal S2560x896 .fp8e4m3) :=
  (before_of m _ 2 (datsE_A m c 2) (datsE_after_2 m c) rfl (fun _ => rfl) (fun _ _ _ => rfl) t d).trans (fetched_2 m c t d)
theorem datsE_3 (c : Dev nD) (t d) : (datsE m 0 c).before 3 t d = (V m c main_v4 : Vec Ideal S1x2560 .f32) :=
  (before_of m _ 3 (datsE_A m c 3) (datsE_after_3 m c) rfl (fun _ => rfl) (fun _ _ _ => rfl) t d).trans (fetched_3 m c t d)
theorem datsE_4 (c : Dev nD) (t d) : (datsE m 0 c).before 4 t d = fetched m c 4 t d :=
  before_of m _ 4 (datsE_A m c 4) (datsE_after_4 m c) rfl (fun _ => rfl) (clip_4 m) t d
theorem datsE_5 (c : Dev nD) (t d) : (datsE m 0 c).before 5 t d = fetched m c 5 t d :=
  before_of m _ 5 (datsE_A m c 5) (datsE_after_5 m c) rfl (fun _ => rfl) (clip_5 m) t d
theorem datsE_6 (c : Dev nD) (t d) : (datsE m 0 c).before 6 t d = (V m c main_v6 : Vec Ideal S2560x896 .bf16) :=
  (before_of m _ 6 (datsE_A m c 6) (datsE_after_6 m c) rfl (fun _ => rfl) (fun _ _ _ => rfl) t d).trans (fetched_6 m c t d)

/-- The hidden states' gradient is written back at the last step only. -/
theorem flush_8 (t : Fin (cfgA m).N) : ((cfgA m).win 8).flush t = decide (t.val = 593) := by
  have h : ∀ t : Fin grid0.N, Window.flushOf grid0 true cc0_transform_8 t = decide (t.val = 593) := by decide +kernel
  rw [Window.flush_eq_flushOf]
  exact h t

/-- Its window is touched at the last step only. -/
theorem idle_8 (t : Fin (cfgA m).N) : (cfgA m).idle 8 ((cfgA m).grid.coords t) = !decide (t.val = 593) := by
  show (!(k0_cond2 (grid0.coords t) == 1#1)) = _
  congr 1
  exact Bool.eq_iff_iff.mpr (by rw [beq_iff_eq, decide_eq_true_iff]; exact cond2_iff t)

/-- The hidden states' gradient's staging buffer is found as it first was. -/
theorem before_8 (c : Dev nD) : ∀ (n : ℕ) (hn : n < (cfgA m).N) (d), (datsE m 0 c).before 8 ⟨n, hn⟩ d = d := by
  intro n
  induction n with
  | zero =>
    intro hn d
    unfold Dat.before
    have hf : ((cfgA m).win 8).fetch ⟨0, hn⟩ = false := rfl
    rw [hf, if_neg Bool.false_ne_true, if_pos rfl]
  | succ n ih =>
    intro hn d
    have hN : (cfgA m).N = 594 := rfl
    rw [Dat.before_of_pos _ 8 ⟨n + 1, hn⟩ (Nat.succ_ne_zero _) rfl d]
    have hfl : ((cfgA m).win 8).flush ⟨n + 1 - 1, Nat.lt_of_le_of_lt (Nat.sub_le _ _) hn⟩ = false := by
      rw [flush_8]; exact decide_eq_false (by show ¬(n = 593); omega)
    have hid : (cfgA m).idle 8 ((cfgA m).grid.coords ⟨n + 1 - 1, Nat.lt_of_le_of_lt (Nat.sub_le _ _) hn⟩) = true := by
      rw [idle_8, decide_eq_false (by show ¬(n = 593); omega)]; rfl
    rw [if_neg (by rw [hfl]; exact Bool.false_ne_true)]
    unfold Dat.left
    rw [hid]
    exact ih _ d

/-- The moved part of the block that step `t` leaves is that part of the embedding's gradient. -/
theorem cut_7 (c : Dev nD) (t : Fin (cfgA m).N) (d0 d1) :
    ((cfgA m).win 7).cut ((cfgA m).grid.coords t) (tileAfter (F := Ideal) (grid0.coords t) (tbl m c) (fetched m c 0 t d0) (fetched m c 1 t d1) (V m c main_v3) (V m c main_v4) (V m c main_v6))
      = ((cfgA m).win 7).cut ((cfgA m).grid.coords t) ((datsE m 0 c).after 7 t) := by
  rw [datsE_after]
  show _ = ((cfgA m).win 7).cut ((cfgA m).grid.coords t) (((cfgA m).win 7).fill ((cfgA m).grid.coords t) (anyOf m 7) ((((cfgA m).win 7).blk t).view.read (Elt Ideal) (outE m c)))
  rw [Window.cut_fill]
  funext j
  have hw := word_coord t
  let x : S256x896.Idx := ((cfgA m).win 7).xinj ((cfgA m).grid.coords t) j
  let k : S151936x896.Idx := (((cfgA m).win 7).blk t).view.emb j
  have hk0 : 256 * t.val + (x 0).val = (k 0).val := by
    show _ = (BitVec.ofNat 32 (grid0.coords t 0).val).toNat * 256 + 1 * (x 0).val
    rw [hw]; omega
  have hk1 : (x 1).val = (k 1).val := by
    show _ = 0 * 896 + 1 * (x 1).val
    omega
  show tileAfter (F := Ideal) (grid0.coords t) (tbl m c) (fetched m c 0 t d0) (fetched m c 1 t d1) (V m c main_v3) (V m c main_v4) (V m c main_v6) x
    = gradE m c (k 0) (k 1)
  rw [show x = ix (x 0) (k 1) from ix_eq _ _ _ rfl hk1]
  exact tile_at m c t d0 d1 (x 0) (k 1) (k 0) hk0

/-- The last step's hidden states' gradient. -/
theorem last_8 (c : Dev nD) (t : Fin (cfgA m).N) (ht : t.val = 593) (d0 d1 d4 d5) (A : Vec Ideal S896x2560 .f32) (hA : t.val ≠ 0 → accH m c t.val A) :
    DH (F := Ideal) (accAfter (grid0.coords t) (fetched m c 0 t d0) (fetched m c 1 t d1) (fetched m c 4 t d4) (fetched m c 5 t d5) A) = outH m c := by
  funext y
  refine (acc_step m c t d0 d1 d4 d5 A hA (y 1) (y 0)).trans ?_
  rw [ht]; rfl

/-- What the body is called with at step `t`, window by window, -/
def preE (c : Dev nD) (t : Fin (cfgA m).N) : sProp 𝕄 :=
  iprop((datsE m 0 c).Φ t.castSucc ∗ (datsE m 0 c).owesAt () t.castSucc
    ∗ (∃ d, owns (c : Thread nD τ) (stg m t 0) fullShare ((datsE m 0 c).before 0 t d))
    ∗ (∃ d, owns (c : Thread nD τ) (stg m t 1) fullShare ((datsE m 0 c).before 1 t d))
    ∗ (∃ d, owns (c : Thread nD τ) (stg m t 2) fullShare ((datsE m 0 c).before 2 t d))
    ∗ (∃ d, owns (c : Thread nD τ) (stg m t 3) fullShare ((datsE m 0 c).before 3 t d))
    ∗ (∃ d, owns (c : Thread nD τ) (stg m t 4) fullShare ((datsE m 0 c).before 4 t d))
    ∗ (∃ d, owns (c : Thread nD τ) (stg m t 5) fullShare ((datsE m 0 c).before 5 t d))
    ∗ (∃ d, owns (c : Thread nD τ) (stg m t 6) fullShare ((datsE m 0 c).before 6 t d))
    ∗ (∃ d, owns (c : Thread nD τ) (stg m t 7) fullShare ((datsE m 0 c).before 7 t d))
    ∗ (∃ d, owns (c : Thread nD τ) (stg m t 8) fullShare ((datsE m 0 c).before 8 t d)))

/-- and what it returns. -/
def postE (c : Dev nD) (t : Fin (cfgA m).N) : sProp 𝕄 :=
  iprop((datsE m 0 c).Φ t.succ ∗ (datsE m 0 c).owesAt () t.succ
    ∗ (∃ d, owns (c : Thread nD τ) (stg m t 0) fullShare (((cfgA m).win 0).fill ((cfgA m).grid.coords t) d (((cfgA m).win 0).cut ((cfgA m).grid.coords t) ((datsE m 0 c).after 0 t))))
    ∗ (∃ d, owns (c : Thread nD τ) (stg m t 1) fullShare (((cfgA m).win 1).fill ((cfgA m).grid.coords t) d (((cfgA m).win 1).cut ((cfgA m).grid.coords t) ((datsE m 0 c).after 1 t))))
    ∗ owns (c : Thread nD τ) (stg m t 2) fullShare ((datsE m 0 c).after 2 t)
    ∗ owns (c : Thread nD τ) (stg m t 3) fullShare ((datsE m 0 c).after 3 t)
    ∗ (∃ d, owns (c : Thread nD τ) (stg m t 4) fullShare (((cfgA m).win 4).fill ((cfgA m).grid.coords t) d (((cfgA m).win 4).cut ((cfgA m).grid.coords t) ((datsE m 0 c).after 4 t))))
    ∗ (∃ d, owns (c : Thread nD τ) (stg m t 5) fullShare (((cfgA m).win 5).fill ((cfgA m).grid.coords t) d (((cfgA m).win 5).cut ((cfgA m).grid.coords t) ((datsE m 0 c).after 5 t))))
    ∗ owns (c : Thread nD τ) (stg m t 6) fullShare ((datsE m 0 c).after 6 t)
    ∗ (∃ d, owns (c : Thread nD τ) (stg m t 7) fullShare (((cfgA m).win 7).fill ((cfgA m).grid.coords t) d (((cfgA m).win 7).cut ((cfgA m).grid.coords t) ((datsE m 0 c).after 7 t))))
    ∗ (datsE m 0 c).leaves 8 t)

/-- The last window is left as the proof data ask: untouched before the last step, then at the hidden states' gradient. -/
theorem leave_8 (c : Dev nD) (t : Fin (cfgA m).N) (X : Vec Ideal S2560x896 .bf16) (hX : t.val = 593 → X = outH m c) :
    (owns (c : Thread nD τ) (stg m t 8) fullShare X : sProp 𝕄) ⊢ (datsE m 0 c).leaves 8 t := by
  unfold Dat.leaves
  rw [idle_8, flush_8]
  by_cases ht : t.val = 593
  · rw [decide_eq_true ht, hX ht]
    show _ ⊢ owns (c : Thread nD τ) (stg m t 8) fullShare ((datsE m 0 c).after 8 t)
    rw [datsE_after_8]
  · rw [decide_eq_false ht]
    show _ ⊢ iprop(∃ d, owns (c : Thread nD τ) (stg m t 8) fullShare ((datsE m 0 c).before 8 t d))
    iintro H
    iexists X
    rw [before_8 m c t.val t.isLt X]
    iexact H

/-- A window a transfer may cut, left right in its moved part, is left as the proof data ask. -/
theorem leave_cut (c : Dev nD) (t : Fin (cfgA m).N) (w : Fin (cfgA m).W) (Y X)
    (h : ((cfgA m).win w).cut ((cfgA m).grid.coords t) Y = ((cfgA m).win w).cut ((cfgA m).grid.coords t) X) :
    (owns (c : Thread nD τ) (stg m t w) fullShare Y : sProp 𝕄)
      ⊢ iprop(∃ d, owns (c : Thread nD τ) (stg m t w) fullShare (((cfgA m).win w).fill ((cfgA m).grid.coords t) d (((cfgA m).win w).cut ((cfgA m).grid.coords t) X))) := by
  rw [← h]
  iintro H
  iexists Y
  rw [Window.fill_cut]
  iexact H

/-- The body at any step. -/
theorem bodyE (c : Dev nD) (hv : InVocab (tbl m c)) (t : Fin (cfgA m).N) :
    preE m c t ⊢ wp frame (wpE (defs₀ (F := Ideal)) 𝒱₀ (c : Thread nD τ) none) Set.univ
      (defs₀ (F := Ideal) .tc (cfgA m).body ((cfgA m).bodyArgs t ((cfgA m).slots t))) (fun _ => postE m c t) := by
  rw [defs₀_row]
  unfold preE postE
  simp only [datsE_0, datsE_1, datsE_2, datsE_3, datsE_4, datsE_5, datsE_6]
  rw [show (datsE m 0 c).Φ t.castSucc = PhiAt m (accH m c) c t.val from rfl,
    show (datsE m 0 c).Φ t.succ = PhiAt m (accH m c) c (t.val + 1) from rfl,
    show (datsE m 0 c).owesAt () t.succ = (datsE m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point m _ _ _ _ _ _ _ _ _ _ _ _ _ _ _ _ _ _ c (fetched m c 0 t d0) (fetched m c 1 t d1) (fetched m c 4 t d4) (fetched m c 5 t d5)
    hv (accH m c) t (acc_step m c t d0 d1 d4 d5) ((datsE m 0 c).before 7 t d7) ((datsE m 0 c).before 8 t d8) _)
  isplitr [Ho]
  · isplitl [HΦ]; · iexact HΦ
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact H8
  iintro ⟨HΦ, ⟨H0, H1, H2, H3, H4, H5, H6⟩, H7, ⟨%X, %hX, H8⟩⟩
  isplitl [HΦ]; · iexact HΦ
  isplitl [Ho]; · iexact Ho
  isplitl [H0]; · iapply (keep m c t 0 d0 _ (datsE_after_0 m c t)); iexact H0
  isplitl [H1]; · iapply (keep m c t 1 d1 _ (datsE_after_1 m c t)); iexact H1
  isplitl [H2]; · rw [datsE_after_2 m c t, fetched_2]; iexact H2
  isplitl [H3]; · rw [datsE_after_3 m c t, fetched_3]; iexact H3
  isplitl [H4]; · iapply (keep m c t 4 d4 _ (datsE_after_4 m c t)); iexact H4
  isplitl [H5]; · iapply (keep m c t 5 d5 _ (datsE_after_5 m c t)); iexact H5
  isplitl [H6]; · rw [datsE_after_6 m c t, fetched_6]; iexact H6
  isplitl [H7]; · iapply (leave_cut m c t 7 _ _ (cut_7 m c t d0 d1)); iexact H7
  have hX' : t.val = 593 → X = outH m c := fun ht => by
    obtain ⟨A, hA, rfl⟩ := hX ht
    exact last_8 m c t ht d0 d1 d4 d5 A hA
  iapply (leave_8 m c t X hX'); iexact H8

/-- The library's body obligation. -/
theorem obligationE (c : Dev nD) (hv : InVocab (tbl m c)) : BodyObligationLoose (datsE m 0 c) (defs₀ (F := Ideal)) 𝒱₀ () Set.univ := fun t => by
  rw [bigSep_W0, bigSep_W0]
  exact triple_restated (bodyE m c hv t) rfl .rfl fun _ => .rfl

end Cert.Proof.PI

end
-- ==== Proof.PI.Value.lean ====
/-
  The kernel's two result arrays at the end of a run: the first is assembled block by block, 256 rows at every grid step; the second is
  written out once, after the last step.
-/
module

public import proofs.«01_k».proof.Proof.PI.Exact
public import proofs.«01_k».proof.Proof.PI.Frame
public import Idealize.ShloMosaic.Lib.Pipeline.ValueKit.Geometry

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch: every run ends, the region's arrays hold what the steps wrote, the rest what the host lines leave. -/
theorem runE (hv : ∀ c, InVocab (tbl m c)) :
    θ_run (defs (F := Ideal)) (onTc (τ := τ) (main (F := Ideal))) ⟨m, fun _ => 0, ρ⟩ (fun r =>
      Pipeline.FramePost (Pipeline.pin pcfgs (adm m)) (datsE m) 0
        (Pipeline.afterTail pcfgs (adm m) (datsE m) 0 (V0 m) [hostOps1]) r ∧ r.2.sem = fun _ => 0) :=
  Pipeline.θ_run_frameP_around_track (Q' := _) pcfgs (adm m) (datsE m) 0 launch0 defs₀ 𝒱₀ m ρ main
    (hbody := fun c => obligationE m c (hv c)) (hshare := fun c => (datsE m 0 c).share_full fun _ => rfl)
    (howed := fun _ _ => rfl) (V₀ := V0 m) (opss := [hostOps1]) (hsub := sfx_sub) (hfresh := sfx_fresh)
    (hkeep := sfx_keeps) (hmain := hmain m) (hA := datsE_A m) (hpf := table_at m)
    (hin := fun c => enter m (accH m c) c)
    (hout := fun c => leave m (accH m c) c (t := 594) (by decide)) (hQ' := fun _ h => h)

/-- The first result is written out at every step. -/
theorem flush_7 (t : Fin (cfgA m).N) : ((cfgA m).win 7).flush t = true := by
  rw [Window.flush_eq_flushOf]
  exact (by decide +kernel : ∀ t : Fin grid0.N, Window.flushOf grid0 true cc0_transform_7 t = true) t

/-- What step `t` writes out of the first result. -/
theorem flushed_7 (c : Dev nD) (t : Fin (cfgA m).N) :
    (datsE m 0 c).flushed 7 t = (((cfgA m).win 7).blk t).view.read (Elt Ideal) (outE m c) := by
  unfold Dat.flushed
  rw [datsE_after]
  exact Window.cut_fill ..

/-- Every entry of the first result lies in the block of some step. -/
theorem cover_7 (i : S151936x896.Idx) : ∃ t : Fin (cfgA m).N, ((cfgA m).win 7).flush t = true ∧ i ∈ (((cfgA m).win 7).blk t).view.set := by
  have h0 : (i 0).val < 151936 := (i 0).isLt
  have h1 : (i 1).val < 896 := (i 1).isLt
  refine ⟨⟨(i 0).val / 256, show _ < 594 by omega⟩, flush_7 m _, ?_⟩
  refine (Window.emb_mem_blk_iff ((cfgA m).win 7) _ i).mpr fun a => ?_
  have hw := word_coord ⟨(i 0).val / 256, show _ < 594 by omega⟩
  fin_cases a
  · have hx := lt_extent (i := (BitVec.ofNat 32 (grid0.coords ⟨(i 0).val / 256, show _ < 594 by omega⟩ 0).val).toNat) (k := 256) (d := 151936)
      (j := (i 0).val % 256) (by omega) (by rw [hw]; show (i 0).val / 256 * 256 + _ < _; omega)
    have e : (BitVec.ofNat 32 (grid0.coords ⟨(i 0).val / 256, show _ < 594 by omega⟩ 0).val).toNat * 256 + (i 0).val % 256 = (i 0).val := by
      rw [hw]; show (i 0).val / 256 * 256 + _ = _; omega
    constructor
    · show (BitVec.ofNat 32 (grid0.coords ⟨(i 0).val / 256, show _ < 594 by omega⟩ 0).val).toNat * 256 ≤ (i 0).val
      omega
    · show (i 0).val < (BitVec.ofNat 32 (grid0.coords ⟨(i 0).val / 256, show _ < 594 by omega⟩ 0).val).toNat * 256
        + (Pipeline.Clip.of (BitVec.ofNat 32 (grid0.coords ⟨(i 0).val / 256, show _ < 594 by omega⟩ 0).val).toNat 256 151936).extent 256
      omega
  · have hx := lt_extent (i := 0) (k := 896) (d := 896) h1 (by omega)
    constructor
    · show 0 * 896 ≤ (i 1).val
      omega
    · show (i 1).val < 0 * 896 + (Pipeline.Clip.of 0 896 896).extent 896
      omega

/-- The first result at the end. -/
theorem final_7 (c : Dev nD) : (datsE m 0 c).arrAt 7 (cfgA m).N = outE m c :=
  (datsE m 0 c).arrAt_eq_of_cover 7 (outE m c) (fun t _ => flushed_7 m c t) (cover_7 m)

/-- The last step. -/
def last8 : Fin (cfgA m).N := ⟨593, show 593 < 594 by decide⟩

/-- The second result's block at any step is the whole array. -/
theorem read_8 (G : Vec Ideal S2560x896 .bf16) (t : Fin (cfgA m).N) :
    ((cfgA m).win 8).cut ((cfgA m).grid.coords t) G = (((cfgA m).win 8).blk t).view.read (Elt Ideal) G := by
  funext j
  show G _ = G _
  congr 1
  funext a; apply Fin.ext
  show _ = cc0_transform_8 ((cfgA m).grid.coords t) a * S2560x896.size a + 1 * (j a).val
  have : cc0_transform_8 ((cfgA m).grid.coords t) a = 0 := by fin_cases a <;> rfl
  rw [this]; show (j a).val = _; omega

/-- What the last step writes out of the second result. -/
theorem flushed_8 (c : Dev nD) (t : Fin (cfgA m).N) :
    (datsE m 0 c).flushed 8 t = (((cfgA m).win 8).blk t).view.read (Elt Ideal) (outH m c) := by
  unfold Dat.flushed
  rw [datsE_after_8]
  exact read_8 m (outH m c) t

/-- Every entry of the second result lies in the last step's block. -/
theorem cover_8 (i : S2560x896.Idx) : ∃ t : Fin (cfgA m).N, ((cfgA m).win 8).flush t = true ∧ i ∈ (((cfgA m).win 8).blk t).view.set := by
  refine ⟨last8 m, by rw [flush_8]; exact decide_eq_true rfl, ?_⟩
  refine (Window.emb_mem_blk_iff ((cfgA m).win 8) _ i).mpr fun a => ?_
  fin_cases a
  · have h : (i 0).val < 2560 := (i 0).isLt
    have hx := lt_extent (i := 0) (k := 2560) (d := 2560) h (by omega)
    constructor
    · show cc0_transform_8 (grid0.coords (last8 m)) 0 * S2560x896.size 0 ≤ (i 0).val
      rw [show cc0_transform_8 (grid0.coords (last8 m)) 0 = 0 from rfl]; omega
    · show (i 0).val < cc0_transform_8 (grid0.coords (last8 m)) 0 * S2560x896.size 0 + (Pipeline.Clip.of 0 2560 2560).extent 2560
      rw [show cc0_transform_8 (grid0.coords (last8 m)) 0 = 0 from rfl]; omega
  · have h : (i 1).val < 896 := (i 1).isLt
    have hx := lt_extent (i := 0) (k := 896) (d := 896) h (by omega)
    constructor
    · show 0 * 896 ≤ (i 1).val
      omega
    · show (i 1).val < 0 * 896 + (Pipeline.Clip.of 0 896 896).extent 896
      omega

/-- The second result, before its last reshape, at the end. -/
theorem final_8 (c : Dev nD) : (datsE m 0 c).arrAt 8 (cfgA m).N = outH m c :=
  (datsE m 0 c).arrAt_eq_of_cover 8 (outH m c) (fun t _ => flushed_8 m c t) (cover_8 m)

/-- The region's arrays are different buffers. -/
theorem arrs_inj : Function.Injective (Pipeline.arrRef spec0) := by decide

/-- The second result as returned. -/
def outR (c : Dev nD) : Vec Ideal S2x1280x896 .bf16 := shapeCast S2x1280x896 (outH m c) shapeCasts_S2560x896_S2x1280x896

/-- Every run ends with the two results in place. -/
theorem value (hv : ∀ c : Dev nD, ∀ j, (m ((c.tc : Thread nD τ).loc main_arg6) j : BitVec 32).toNat < 151936) :
    θ_run (defs (F := Ideal)) (onTc (τ := τ) (main (F := Ideal))) ⟨m, fun _ => 0, ρ⟩ (fun r => ∀ c : Dev nD,
      r.2.mem ((c.tc : Thread nD τ).loc main_v7_0) = outE m c ∧ r.2.mem ((c.tc : Thread nD τ).loc main_v8) = outR m c) := by
  refine (θ_run defs _ _).mono (fun r h c => ?_) (runE m ρ fun c => table_in_vocab m c (hv c))
  refine ⟨((h.1 c).1 7).trans (final_7 m c), ((h.1 c).2 main_v8 (Pipeline.mem_restRefs_of (win := spec0) main_v8 (by decide) (by decide))).trans ?_⟩
  unfold Pipeline.afterTail
  rw [show ([hostOps1] : List (List (HloOp τ sig (Elt Ideal)))).flatten = hostOps1 from rfl]
  simp only [StableHlo.after_cons, StableHlo.after_nil]
  rw [StableHlo.reshape_result]
  have e : Pipeline.withArrays spec0 c (V0 m c) (fun w => (datsE m 0 c).arrAt w (cfgA m).N) (Proc.devRef .tc main_v7_1) = outH m c :=
    (Pipeline.withArrays_arr spec0 arrs_inj c (V0 m c) (fun w => (datsE m 0 c).arrAt w (cfgA m).N) 8).trans (final_8 m c)
  funext i
  exact congrArg (fun X : Vec Ideal S2560x896 .bf16 => shapeCast S2x1280x896 X shapeCasts_S2560x896_S2x1280x896 i) e

end Cert.Proof.PI

end
-- ==== Proof.Spec.lean ====
/-
  What both programs compute, written over the arguments: the two gradients of a tied vocabulary projection, from codes and scales.
-/
module

public import proofs.«01_k».proof.Proof.Own
public import Idealize.ShloMosaic.PureOps.Ideal

@[expose] public section

noncomputable section

namespace Cert.Proof

open Idealize.ShloMosaic
open Cert.Proof.Own

/-- The index of three axes. -/
def ix3 {k m n : ℕ} (a : Fin k) (b : Fin m) (c : Fin n) : (⟨3, ![k, m, n]⟩ : Shape).Idx := fun
  | 0 => a
  | 1 => b
  | 2 => c

theorem ix3_eq {k m n : ℕ} (y : (⟨3, ![k, m, n]⟩ : Shape).Idx) (a : Fin k) (b : Fin m) (c : Fin n)
    (h0 : (y 0).val = a.val) (h1 : (y 1).val = b.val) (h2 : (y 2).val = c.val) : y = ix3 a b c := funext fun
  | 0 => Fin.ext h0
  | 1 => Fin.ext h1
  | 2 => Fin.ext h2

/-- The eight arguments, over the extended reals. -/
structure Args where
  /-- the logit gradient's codes, -/
  g : Vec Ideal ⟨3, ![2, 1280, 151936]⟩ .fp8e5m2
  /-- their scales, one for 128 tokens, -/
  gs : Vec Ideal ⟨3, ![2, 10, 151936]⟩ .f32
  /-- the hidden states' codes, -/
  h : Vec Ideal ⟨3, ![2, 1280, 896]⟩ .fp8e4m3
  /-- their scales, -/
  hs : Vec Ideal ⟨2, ![2, 1280]⟩ .f32
  /-- the embedding's codes, -/
  e : Vec Ideal ⟨2, ![151936, 896]⟩ .i8
  /-- their scales, -/
  es : Vec Ideal ⟨1, ![151936]⟩ .f32
  /-- the token ids, -/
  ids : Vec Ideal ⟨2, ![2, 1280]⟩ .i32
  /-- and the rows that the tokens add. -/
  r : Vec Ideal ⟨3, ![2, 1280, 896]⟩ .bf16

namespace Args

variable (x : Args)

/-- The scale's run of 128 tokens. -/
def run (s : Fin 1280) : Fin 10 := ⟨s.val / 128, Nat.div_lt_of_lt_mul s.isLt⟩
/-- The decoded logit gradient. -/
def dl (b : Fin 2) (s : Fin 1280) (v : Fin 151936) : EReal := (x.g (ix3 b s v) : EReal) * x.gs (ix3 b (run s) v)
/-- The decoded hidden states. -/
def hh (b : Fin 2) (s : Fin 1280) (d : Fin 896) : EReal := (x.h (ix3 b s d) : EReal) * x.hs (ix b s)
/-- The decoded embedding. -/
def ee (v : Fin 151936) (d : Fin 896) : EReal := ((BitVec.toInt (x.e (ix v d) : BitVec 8) : ℝ) : EReal) * x.es (ix1 v)
/-- The token id as a number. -/
def tok (b : Fin 2) (s : Fin 1280) : ℕ := BitVec.toNat (x.ids (ix b s) : BitVec 32)
/-- The row that a token adds. -/
def rr (b : Fin 2) (s : Fin 1280) (d : Fin 896) : EReal := x.r (ix3 b s d)

/-- The embedding's gradient: a product over all tokens, and the rows of the tokens that are this entry. -/
def dE (v : Fin 151936) (d : Fin 896) : EReal :=
  (∑ b, ∑ s, x.dl b s v * x.hh b s d) + ∑ b, ∑ s, if x.tok b s = v.val then x.rr b s d else 0
/-- The hidden states' gradient: a product over the vocabulary. -/
def dH (b : Fin 2) (s : Fin 1280) (d : Fin 896) : EReal := ∑ v, x.dl b s v * x.ee v d

end Args

/-- Token `s` of sequence `b` among all. -/
def tokenAt (b : Fin 2) (s : Fin 1280) : Fin 2560 := ⟨1280 * b.val + s.val, by have := b.isLt; have := s.isLt; omega⟩

/-- A sum over all tokens, sequence by sequence. -/
theorem sum_tokens {M : Type*} [AddCommMonoid M] (f : Fin 2560 → M) : ∑ n, f n = ∑ b, ∑ s, f (tokenAt b s) := by
  rw [← Fintype.sum_prod_type']
  refine (Fintype.sum_equiv (finProdFinEquiv (m := 2) (n := 1280)) _ _ fun p => ?_).symm
  refine congrArg f (Fin.ext ?_)
  show 1280 * p.1.val + p.2.val = p.2.val + 1280 * p.1.val
  omega

end Cert.Proof

end
-- ==== Proof.PI.Args.lean ====
/-
  The kernel's two results over the arguments: its staged arrays are reshapes of them, and its sums over blocks are the whole sums.
-/
module

public import proofs.«01_k».proof.Proof.PI.Value
public import proofs.«01_k».proof.Proof.Spec

@[expose] public section

noncomputable section

namespace Cert.Proof.PI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Proof.Own Cert.Proof.Chain

local notation "𝕄" => MT nD τ sig Unit (Elt Ideal) ℕ (UR sig nD τ) ℕ

variable (m : (ℓ : Loc nD τ sig) → Buf (Elt Ideal) ℓ) (ρ : Dev nD → PrngReg)

/-- The kernel's arguments. -/
def args (c : Dev nD) : Args where
  g := m ((c.tc : Thread nD τ).loc main_arg0)
  gs := m ((c.tc : Thread nD τ).loc main_arg1)
  h := m ((c.tc : Thread nD τ).loc main_arg2)
  hs := m ((c.tc : Thread nD τ).loc main_arg3)
  e := m ((c.tc : Thread nD τ).loc main_arg4)
  es := m ((c.tc : Thread nD τ).loc main_arg5)
  ids := m ((c.tc : Thread nD τ).loc main_arg6)
  r := m ((c.tc : Thread nD τ).loc main_arg7)

theorem gCodes_eq (c : Dev nD) : gCodes m c = shapeCast S2560x151936 (args m c).g shapeCasts_S2x1280x151936_S2560x151936 := rfl
theorem gScales_eq (c : Dev nD) : gScales m c = shapeCast S20x151936 (args m c).gs shapeCasts_S2x10x151936_S20x151936 := rfl
theorem hCodes_eq (c : Dev nD) : hCodes m c = shapeCast S2560x896 (args m c).h shapeCasts_S2x1280x896_S2560x896 := rfl
theorem hScales_eq (c : Dev nD) : hScales m c = shapeCast S1x2560 (args m c).hs shapeCasts_S2x1280_S1x2560 := rfl
theorem eCodes_eq (c : Dev nD) : eCodes m c = (args m c).e := rfl
theorem eScales_eq (c : Dev nD) : eScales m c = shapeCast S1x151936 (args m c).es shapeCasts_S151936_S1x151936 := rfl
theorem rows_eq (c : Dev nD) : rows m c = shapeCast S2560x896 (args m c).r shapeCasts_S2x1280x896_S2560x896 := rfl
theorem tbl_eq (c : Dev nD) : tbl m c = shapeCast S2560 (args m c).ids shapeCasts_S2x1280_S2560 := rfl

/-- Merging the first two axes of an array, read at a token. -/
theorem merged {k : ℕ} {α : Type} (X : (⟨3, ![2, 1280, k]⟩ : Shape).Idx → α) (h : (⟨3, ![2, 1280, k]⟩ : Shape).ShapeCasts ⟨2, ![2560, k]⟩)
    (b : Fin 2) (s : Fin 1280) (v : Fin k) : shapeCast ⟨2, ![2560, k]⟩ X h (ix (tokenAt b s) v) = X (ix3 b s v) := by
  refine shapeCast_apply _ _ _ _ ?_
  rw [Shape.rowMajor_val_three, Shape.rowMajor_val_two]
  show (b.val * 1280 + s.val) * k + v.val = (1280 * b.val + s.val) * k + v.val
  rw [Nat.mul_comm b.val]

theorem dlog_eq (c : Dev nD) (b s v) : dlog m c (tokenAt b s) v = (args m c).dl b s v := by
  have e : shapeCast S20x151936 (args m c).gs shapeCasts_S2x10x151936_S20x151936 (ix (rowOf (tokenAt b s)) v) = (args m c).gs (ix3 b (Args.run s) v) := by
    refine shapeCast_apply _ _ _ _ ?_
    rw [Shape.rowMajor_val_three, Shape.rowMajor_val_two]
    show (b.val * 10 + s.val / 128) * 151936 + v.val = ((1280 * b.val + s.val) / 128) * 151936 + v.val
    omega
  unfold dlog Args.dl
  rw [gCodes_eq, gScales_eq, e, merged]

theorem hid_eq (c : Dev nD) (b s d) : hid m c (tokenAt b s) d = (args m c).hh b s d := by
  have e : shapeCast S1x2560 (args m c).hs shapeCasts_S2x1280_S1x2560 (ix 0 (tokenAt b s)) = (args m c).hs (ix b s) := by
    refine shapeCast_apply _ _ _ _ ?_
    rw [Shape.rowMajor_val_two, Shape.rowMajor_val_two]
    show b.val * 1280 + s.val = 0 * 2560 + (1280 * b.val + s.val)
    omega
  unfold hid Args.hh
  rw [hCodes_eq, hScales_eq, e, merged]

theorem emb_eq (c : Dev nD) (v d) : emb m c v d = (args m c).ee v d := by
  have e : shapeCast S1x151936 (args m c).es shapeCasts_S151936_S1x151936 (ix 0 v) = (args m c).es (ix1 v) := by
    refine shapeCast_apply _ _ _ _ ?_
    rw [Shape.rowMajor_val_one, Shape.rowMajor_val_two]
    show v.val = 0 * 151936 + v.val
    omega
  unfold emb Args.ee
  rw [eCodes_eq, eScales_eq, e]

theorem row_eq (c : Dev nD) (b s d) : row m c (tokenAt b s) d = (args m c).rr b s d := by
  unfold row Args.rr
  rw [rows_eq, merged]

theorem tok_eq (c : Dev nD) (b s) : BitVec.toNat (tbl m c (ix1 (tokenAt b s)) : BitVec 32) = (args m c).tok b s := by
  unfold Args.tok
  rw [tbl_eq]
  refine congrArg BitVec.toNat (shapeCast_apply _ _ _ _ ?_)
  rw [Shape.rowMajor_val_one, Shape.rowMajor_val_two]
  show b.val * 1280 + s.val = 1280 * b.val + s.val
  omega

/-- The embedding's gradient as the kernel sums it. -/
theorem gradE_eq (c : Dev nD) (v d) : gradE m c v d = (args m c).dE v d := by
  unfold gradE Args.dE
  rw [sum_tokens, sum_tokens]
  refine congrArg₂ (· + ·) ?_ (Finset.sum_congr rfl fun b _ => Finset.sum_congr rfl fun s _ => ?_)
  · simp only [dlog_eq, hid_eq, mul_comm]
  · rw [row_eq]
    exact if_congr (by rw [← tok_eq]) rfl rfl

/-- The last block reaches past the vocabulary, where nothing is added. -/
theorem sum_blocks (f : Fin 151936 → EReal) :
    (∑ v ∈ Finset.range (256 * 594), if h : v < 151936 then f ⟨v, h⟩ else 0) = ∑ v, f v := by
  rw [← Finset.sum_subset (s₁ := Finset.range 151936) (Finset.range_subset_range.mpr (by norm_num)) (fun v _ h => dif_neg (by simpa using h)),
    ← Fin.sum_univ_eq_sum_range (fun v => if h : v < 151936 then f ⟨v, h⟩ else 0)]
  exact Finset.sum_congr rfl fun v _ => dif_pos v.isLt

/-- The hidden states' gradient as the kernel sums it. -/
theorem outH_eq (c : Dev nD) (b s d) : outH m c (ix (tokenAt b s) d) = (args m c).dH b s d := by
  have e := sum_blocks fun v => (args m c).dl b s v * (args m c).ee v d
  refine Eq.trans ?_ e
  unfold outH
  refine Finset.sum_congr rfl fun v _ => ?_
  show termH m c d (tokenAt b s) v = _
  unfold termH
  simp only [dlog_eq, emb_eq, mul_comm]

/-- The first result, entry by entry. -/
theorem outE_apply (c : Dev nD) (j : S151936x896.Idx) : outE m c j = (args m c).dE (j 0) (j 1) := gradE_eq m c _ _

/-- The second result, entry by entry. -/
theorem outR_apply (c : Dev nD) (j : S2x1280x896.Idx) : outR m c j = (args m c).dH (j 0) (j 1) (j 2) := by
  refine Eq.trans ?_ (outH_eq m c (j 0) (j 1) (j 2))
  refine shapeCast_apply _ _ _ _ ?_
  rw [Shape.rowMajor_val_three, Shape.rowMajor_val_two]
  show (1280 * (j 0).val + (j 1).val) * 896 + (j 2).val = ((j 0).val * 1280 + (j 1).val) * 896 + (j 2).val
  omega

end Cert.Proof.PI

end
-- ==== Proof.RI.Host.lean ====
/-
  The reference's host lines over the extended reals: which array each result is, as a function of the arguments and of the arrays that
  the decoding region left.
-/
module

public import proofs.«01_k».proof.Proof.Gen.ReferenceIdeal.Frame
public import proofs.«01_k».proof.Proof.Spec
public import Idealize.ShloMosaic.Lib.StableHlo.Run

@[expose] public section

noncomputable section

namespace Cert.Proof.RI

open Cert.ReferenceIdeal Cert.ReferenceIdeal.Gen
open Idealize.ShloMosaic
open Idealize.ShloMosaic.TcCoe Idealize.ShloMosaic.Tactic

/-- The decoded logit gradient: every code by the scale of its run of 128 tokens. -/
def dlA (C : Vec Ideal S2x1280x151936 .bf16) (S : Vec Ideal S2x10x151936 .f32) : Vec Ideal S2x1280x151936 .bf16 :=
  shapeCast S2x1280x151936
    (mulf (F := Ideal) (shapeCast S2x10x128x151936 C shapeCasts_S2x1280x151936_S2x10x128x151936)
      (broadcastInDim S2x10x128x151936 ![0, 1, 2, 3] bcast_S2x10x1x151936_S2x10x128x151936_0_1_2_3
        (broadcastInDim S2x10x1x151936 ![0, 1, 3] bcast_S2x10x151936_S2x10x1x151936_0_1_3
          (truncf (F := Ideal) .bf16 S bitsLt_bf16_f32 : Vec Ideal S2x10x151936 .bf16))))
    shapeCasts_S2x10x128x151936_S2x1280x151936

/-- The decoded hidden states. -/
def hhA (C : Vec Ideal S2x1280x896 .bf16) (S : Vec Ideal S2x1280 .f32) : Vec Ideal S2x1280x896 .bf16 :=
  mulf (F := Ideal) C
    (broadcastInDim S2x1280x896 ![0, 1, 2] bcast_S2x1280x1_S2x1280x896_0_1_2
      (broadcastInDim S2x1280x1 ![0, 1] bcast_S2x1280_S2x1280x1_0_1 (truncf (F := Ideal) .bf16 S bitsLt_bf16_f32 : Vec Ideal S2x1280 .bf16)))

/-- The decoded embedding. -/
def eeA (C : Vec Ideal S151936x896 .bf16) (S : Vec Ideal S151936 .f32) : Vec Ideal S151936x896 .bf16 :=
  mulf (F := Ideal) C
    (broadcastInDim S151936x896 ![0, 1] bcast_S151936x1_S151936x896_0_1
      (broadcastInDim S151936x1 ![0] bcast_S151936_S151936x1_0 (truncf (F := Ideal) .bf16 S bitsLt_bf16_f32 : Vec Ideal S151936 .bf16)))

/-- The flattened token ids, a negative one counted from the end of the vocabulary. -/
def wrapA (I : Vec Ideal S2x1280 .i32) : Vec Ideal S2560 .i32 :=
  select (cmpi .slt (shapeCast S2560 I shapeCasts_S2x1280_S2560) (broadcastInDim S2560 ![] bcast_S_S2560 (constantI S_ 32 0#32)))
    (addi (shapeCast S2560 I shapeCasts_S2x1280_S2560) (broadcastInDim S2560 ![] bcast_S_S2560 (constantI S_ 32 151936#32)))
    (shapeCast S2560 I shapeCasts_S2x1280_S2560)

/-- The rows that the tokens add. -/
def updA (R : Vec Ideal S2x1280x896 .bf16) : Vec Ideal S2560x896 .f32 :=
  extf (F := Ideal) .f32 (shapeCast S2560x896 R shapeCasts_S2x1280x896_S2560x896 : Vec Ideal S2560x896 .bf16) bitsLt_bf16_f32

set_option maxHeartbeats 1000000 in
/-- The first result. -/
theorem res21 (W : Valuation τ sig (Elt Ideal)) :
    StableHlo.after hostOps1 W (Proc.devRef .tc main_v21)
      = Host.scatterAdd (F := Ideal) (φ := .f32) scatter_S151936x896_S2560x1_S2560x896_1_0_0_1
          (Host.dotGeneral (F := Ideal) (φ₁ := .bf16) (φ₂ := .bf16) dot_S2x1280x151936_S2x1280x896_S151936x896_01_01_2_2_n_n none
            (dlA (W (Proc.devRef .tc main_v0_0)) (W (Proc.devRef .tc main_arg1))) (hhA (W (Proc.devRef .tc main_v0_1)) (W (Proc.devRef .tc main_arg3))))
          (broadcastInDim S2560x1 ![0] bcast_S2560_S2560x1_0 (wrapA (W (Proc.devRef .tc main_arg6))))
          (updA (W (Proc.devRef .tc main_arg7))) := by
  after_results
  rfl

set_option maxHeartbeats 1000000 in
/-- The second result. -/
theorem res27 (W : Valuation τ sig (Elt Ideal)) :
    StableHlo.after hostOps1 W (Proc.devRef .tc main_v27)
      = truncf (F := Ideal) .bf16 (Host.dotGeneral (F := Ideal) (φ₁ := .bf16) (φ₂ := .bf16) dot_S2x1280x151936_S151936x896_S2x1280x896_2_0_01_1_n_n none
            (dlA (W (Proc.devRef .tc main_v0_0)) (W (Proc.devRef .tc main_arg1))) (eeA (W (Proc.devRef .tc main_v0_2)) (W (Proc.devRef .tc main_arg5))) : Vec Ideal S2x1280x896 .f32) bitsLt_bf16_f32 := by
  after_results
  rfl

end Cert.Proof.RI

end
-- ==== Proof.RI.Entries.lean ====
/-
  The reference's arrays entry by entry: decoded operands, the two contractions, and the scatter of the tokens' rows.
-/
module

public import proofs.«01_k».proof.Proof.RI.Host
public import Idealize.ShloMosaic.Lib.Pipeline.Value
public import Idealize.ShloMosaic.Lib.TwoAxisContraction
public import Idealize.ShloMosaic.PureOps.Ideal.Laws

@[expose] public section

noncomputable section

namespace Cert.Proof.RI

open Cert.ReferenceIdeal Cert.ReferenceIdeal.Gen
open Idealize.ShloMosaic
open Cert.Proof.Own

theorem dlA_at (C : Vec Ideal S2x1280x151936 .bf16) (S : Vec Ideal S2x10x151936 .f32) (b : Fin 2) (s : Fin 1280) (v : Fin 151936) :
    (dlA C S (ix3 b s v) : EReal) = (C (ix3 b s v) : EReal) * S (ix3 b (Args.run s) v) := by
  have hs : s.val < 1280 := s.isLt
  let k : S2x10x128x151936.Idx := fun | 0 => b | 1 => Args.run s | 2 => ⟨s.val % 128, Nat.mod_lt _ (by decide)⟩ | 3 => v
  let k' : S2x10x1x151936.Idx := fun | 0 => b | 1 => Args.run s | 2 => ⟨0, Nat.one_pos⟩ | 3 => v
  unfold dlA
  rw [shapeCast_apply _ _ (ix3 b s v) k (by
    rw [Shape.rowMajor_val_three, Shape.rowMajor_val_four]
    show ((b.val * 10 + s.val / 128) * 128 + s.val % 128) * 151936 + v.val = (b.val * 1280 + s.val) * 151936 + v.val
    omega)]
  refine congrArg₂ (fun a b : EReal => a * b) ?_ ?_
  · refine shapeCast_apply _ _ _ _ ?_
    rw [Shape.rowMajor_val_three, Shape.rowMajor_val_four]
    show (b.val * 1280 + s.val) * 151936 + v.val = ((b.val * 10 + s.val / 128) * 128 + s.val % 128) * 151936 + v.val
    omega
  · rw [broadcastInDim_apply _ _ _ k k' (by intro a; fin_cases a <;> rfl),
      broadcastInDim_apply _ _ _ k' (ix3 b (Args.run s) v) (by intro a; fin_cases a <;> rfl)]
    rfl

theorem hhA_at (C : Vec Ideal S2x1280x896 .bf16) (S : Vec Ideal S2x1280 .f32) (b : Fin 2) (s : Fin 1280) (d : Fin 896) :
    (hhA C S (ix3 b s d) : EReal) = (C (ix3 b s d) : EReal) * S (ix b s) := by
  unfold hhA
  refine congrArg₂ (fun a b : EReal => a * b) rfl ?_
  rw [broadcastInDim_apply _ _ _ (ix3 b s d) (ix3 b s 0) (by intro a; fin_cases a <;> rfl),
    broadcastInDim_apply _ _ _ (ix3 b s 0) (ix b s) (by intro a; fin_cases a <;> rfl)]
  rfl

theorem eeA_at (C : Vec Ideal S151936x896 .bf16) (S : Vec Ideal S151936 .f32) (v : Fin 151936) (d : Fin 896) :
    (eeA C S (ix v d) : EReal) = (C (ix v d) : EReal) * S (ix1 v) := by
  unfold eeA
  refine congrArg₂ (fun a b : EReal => a * b) rfl ?_
  rw [broadcastInDim_apply _ _ _ (ix v d) (ix v 0) (by intro a; fin_cases a <;> rfl),
    broadcastInDim_apply _ _ _ (ix v 0) (ix1 v) (by intro a; fin_cases a <;> rfl)]
  rfl

/-- The product over all tokens. -/
theorem dot_tokens (l : FVec Ideal S2x1280x151936 .bf16) (r : FVec Ideal S2x1280x896 .bf16) (v : Fin 151936) (d : Fin 896) :
    (Host.dotGeneral (F := Ideal) dot_S2x1280x151936_S2x1280x896_S151936x896_01_01_2_2_n_n none l r (ix v d) : EReal)
      = ∑ b, ∑ s, (l (ix3 b s v) : EReal) * r (ix3 b s d) := by
  unfold Host.dotGeneral
  rw [Ideal.dotGeneral_apply]
  rw [ValueIdx.sum_contr2 dot_S2x1280x151936_S2x1280x896_S151936x896_01_01_2_2_n_n 2 1280 rfl rfl rfl]
  refine Finset.sum_congr rfl fun b _ => Finset.sum_congr rfl fun s _ => ?_
  have h0 := ValueIdx.contrEquiv2_symm_val0 dot_S2x1280x151936_S2x1280x896_S151936x896_01_01_2_2_n_n 2 1280 rfl rfl rfl (b, s)
  have h1 := ValueIdx.contrEquiv2_symm_val1 dot_S2x1280x151936_S2x1280x896_S151936x896_01_01_2_2_n_n 2 1280 rfl rfl rfl (b, s)
  exact congrArg₂ (fun a b : EReal => a * b) (congrArg l (ix3_eq _ _ _ _ h0 h1 rfl)) (congrArg r (ix3_eq _ _ _ _ h0 h1 rfl))

/-- The product over the vocabulary. -/
theorem dot_vocab (l : FVec Ideal S2x1280x151936 .bf16) (r : FVec Ideal S151936x896 .bf16) (b : Fin 2) (s : Fin 1280) (d : Fin 896) :
    (Host.dotGeneral (F := Ideal) dot_S2x1280x151936_S151936x896_S2x1280x896_2_0_01_1_n_n none l r (ix3 b s d) : EReal)
      = ∑ v, (l (ix3 b s v) : EReal) * r (ix v d) := by
  unfold Host.dotGeneral
  rw [Ideal.dotGeneral_apply]
  rw [← Equiv.sum_comp (ValueIdx.contrEquiv1 dot_S2x1280x151936_S151936x896_S2x1280x896_2_0_01_1_n_n 151936 rfl rfl).symm]
  refine Finset.sum_congr rfl fun v _ => ?_
  have h0 := ValueIdx.contrEquiv1_symm_val dot_S2x1280x151936_S151936x896_S2x1280x896_2_0_01_1_n_n 151936 rfl rfl v
  exact congrArg₂ (fun a b : EReal => a * b) (congrArg l (ix3_eq _ _ _ _ rfl rfl h0)) (congrArg r (ix_eq _ _ _ h0 rfl))

/-- Where the row of a token lands: at the token's entry of the vocabulary. -/
theorem lands (idx : IVec S2560x1 32) (n : Fin 2560) (d' : Fin 896) (v : Fin 151936) (d : Fin 896) :
    scatter_S151936x896_S2560x1_S2560x896_1_0_0_1.resultIdx? (ix n d') idx = some (ix v d)
      ↔ (idx (ix n 0)).toInt = (v.val : ℤ) ∧ d' = d := by
  let D := scatter_S151936x896_S2560x1_S2560x896_1_0_0_1
  have s0 : D.start (ix n d') idx 0 = (idx (ix n 0)).toInt := by
    refine congrArg (fun k => (idx k).toInt) (ix_eq _ _ _ rfl rfl)
  have s1 : D.start (ix n d') idx 1 = 0 := rfl
  have w0 : D.window (ix n d') 0 = 0 := rfl
  have w1 : D.window (ix n d') 1 = d'.val := rfl
  have hv : v.val < 151936 := v.isLt
  have hd : d'.val < 896 := d'.isLt
  unfold ScatterDims.resultIdx?
  split
  · rename_i h
    have h0 := h 0
    rw [Option.some_inj]
    constructor
    · intro e
      have e0 : (D.start (ix n d') idx 0 + D.window (ix n d') 0).toNat = v.val := congrArg (fun k : S151936x896.Idx => (k 0).val) e
      have e1 : (D.start (ix n d') idx 1 + D.window (ix n d') 1).toNat = d.val := congrArg (fun k : S151936x896.Idx => (k 1).val) e
      have h0' : 0 ≤ D.start (ix n d') idx 0 + D.window (ix n d') 0 := h0.1
      rw [s0, w0] at e0 h0'
      rw [s1, w1] at e1
      exact ⟨by omega, Fin.ext (by omega)⟩
    · rintro ⟨e, rfl⟩
      refine ix_eq _ _ _ ?_ ?_
      · show (D.start (ix n d') idx 0 + D.window (ix n d') 0).toNat = v.val
        rw [s0, w0, e]; omega
      · show (D.start (ix n d') idx 1 + D.window (ix n d') 1).toNat = d'.val
        rw [s1, w1]; omega
  · rename_i h
    refine ⟨fun e => absurd e (by simp), fun e => absurd (fun a => ?_) h⟩
    obtain ⟨e, -⟩ := e
    fin_cases a
    · show 0 ≤ D.start (ix n d') idx 0 + D.window (ix n d') 0 ∧ D.start (ix n d') idx 0 + D.window (ix n d') 0 < (151936 : ℤ)
      rw [s0, w0, e]; omega
    · show 0 ≤ D.start (ix n d') idx 1 + D.window (ix n d') 1 ∧ D.start (ix n d') idx 1 + D.window (ix n d') 1 < (896 : ℤ)
      rw [s1, w1]; omega

/-- The scatter read at an entry: what was there, and the rows of the tokens that are that entry. -/
theorem scatter_at (X : FVec Ideal S151936x896 .f32) (idx : IVec S2560x1 32) (U : FVec Ideal S2560x896 .f32) (v : Fin 151936) (d : Fin 896) :
    (Host.scatterAdd (F := Ideal) (φ := .f32) scatter_S151936x896_S2560x1_S2560x896_1_0_0_1 X idx U (ix v d) : EReal)
      = (X (ix v d) : EReal) + ∑ n : Fin 2560, if (idx (ix n 0)).toInt = (v.val : ℤ) then (U (ix n d) : EReal) else 0 := by
  refine congrArg (fun z : EReal => (X (ix v d) : EReal) + z) ?_
  rw [Finset.sum_filter, ValueIdx.sum_idx2]
  refine Finset.sum_congr rfl fun n _ => ?_
  have e : ∀ d' : Fin 896, (ValueIdx.ix2 n d' : S2560x896.Idx) = ix n d' := fun d' => ix_eq _ _ _ rfl rfl
  simp only [e, lands]
  by_cases h : (idx (ix n 0)).toInt = (v.val : ℤ)
  · simp [h]
  · simp [h]

/-- A token id inside the vocabulary stays as it is. -/
theorem wrapA_at (I : Vec Ideal S2x1280 .i32) (hI : ∀ j, BitVec.toNat (I j : BitVec 32) < 151936) (b : Fin 2) (s : Fin 1280) :
    wrapA I (ix1 (tokenAt b s)) = I (ix b s) := by
  have e : shapeCast S2560 I shapeCasts_S2x1280_S2560 (ix1 (tokenAt b s)) = I (ix b s) := by
    refine shapeCast_apply _ _ _ _ ?_
    rw [Shape.rowMajor_val_one, Shape.rowMajor_val_two]
    show b.val * 1280 + s.val = 1280 * b.val + s.val
    omega
  have h : ¬ (I (ix b s) : BitVec 32).toInt < 0 := by
    have := hI (ix b s)
    rw [BitVec.toInt_eq_toNat_cond]
    split <;> omega
  unfold wrapA
  show (if BitVec.ofBool (BitVec.slt (shapeCast S2560 I shapeCasts_S2x1280_S2560 (ix1 (tokenAt b s))) 0#32) = 1#1 then _ else
    shapeCast S2560 I shapeCasts_S2x1280_S2560 (ix1 (tokenAt b s))) = _
  rw [e, if_neg]
  intro hs
  have hs' : BitVec.slt (I (ix b s)) 0#32 = true := by
    cases hb : BitVec.slt (I (ix b s)) 0#32 with
    | true => rfl
    | false => rw [hb] at hs; exact absurd hs (by decide)
  exact h (by simpa [BitVec.slt] using hs')

/-- The row of a token. -/
theorem updA_at (R : Vec Ideal S2x1280x896 .bf16) (b : Fin 2) (s : Fin 1280) (d : Fin 896) :
    (updA R (ix (tokenAt b s) d) : EReal) = R (ix3 b s d) := by
  unfold updA
  refine shapeCast_apply _ _ _ _ ?_
  rw [Shape.rowMajor_val_three, Shape.rowMajor_val_two]
  show (b.val * 1280 + s.val) * 896 + d.val = (1280 * b.val + s.val) * 896 + d.val
  omega

/-- The reference's first result is the embedding's gradient. -/
theorem dE_at (x : Args) (hI : ∀ j, BitVec.toNat (x.ids j : BitVec 32) < 151936) (v : Fin 151936) (d : Fin 896)
    (C : Vec Ideal S2x1280x151936 .bf16) (H : Vec Ideal S2x1280x896 .bf16) (hC : ∀ j, (C j : EReal) = x.g j) (hH : ∀ j, (H j : EReal) = x.h j) :
    (Host.scatterAdd (F := Ideal) (φ := .f32) scatter_S151936x896_S2560x1_S2560x896_1_0_0_1
      (Host.dotGeneral (F := Ideal) (φ₁ := .bf16) (φ₂ := .bf16) dot_S2x1280x151936_S2x1280x896_S151936x896_01_01_2_2_n_n none (dlA C x.gs) (hhA H x.hs))
      (broadcastInDim S2560x1 ![0] bcast_S2560_S2560x1_0 (wrapA x.ids)) (updA x.r) (ix v d) : EReal) = x.dE v d := by
  rw [scatter_at, dot_tokens, sum_tokens]
  unfold Args.dE
  refine congrArg₂ (fun a b : EReal => a + b) (Finset.sum_congr rfl fun b _ => Finset.sum_congr rfl fun s _ => ?_)
    (Finset.sum_congr rfl fun b _ => Finset.sum_congr rfl fun s _ => ?_)
  · rw [dlA_at, hhA_at, hC, hH]; rfl
  · have e : broadcastInDim S2560x1 ![0] bcast_S2560_S2560x1_0 (wrapA x.ids) (ix (tokenAt b s) 0) = x.ids (ix b s) :=
      (broadcastInDim_apply _ _ _ _ (ix1 (tokenAt b s)) (by intro a; fin_cases a; rfl)).trans (wrapA_at x.ids hI b s)
    have hn := hI (ix b s)
    rw [e, updA_at]
    refine if_congr ?_ rfl rfl
    show _ ↔ BitVec.toNat (x.ids (ix b s) : BitVec 32) = v.val
    rw [BitVec.toInt_eq_toNat_cond]
    split <;> omega

/-- The reference's second result is the hidden states' gradient. -/
theorem dH_at (x : Args) (b : Fin 2) (s : Fin 1280) (d : Fin 896)
    (C : Vec Ideal S2x1280x151936 .bf16) (E : Vec Ideal S151936x896 .bf16) (hC : ∀ j, (C j : EReal) = x.g j)
    (hE : ∀ j, (E j : EReal) = ((BitVec.toInt (x.e j : BitVec 8) : ℝ) : EReal)) :
    (Host.dotGeneral (F := Ideal) (φ₁ := .bf16) (φ₂ := .bf16) dot_S2x1280x151936_S151936x896_S2x1280x896_2_0_01_1_n_n none (dlA C x.gs) (eeA E x.es) (ix3 b s d) : EReal)
      = x.dH b s d := by
  rw [dot_vocab]
  refine Finset.sum_congr rfl fun v _ => ?_
  rw [dlA_at, eeA_at, hC, hE]; rfl

end Cert.Proof.RI

end
-- ==== Proof.RI.Decode.lean ====
/-
  The reference's decoding region: the three arrays that it writes hold its three code arrays, read as numbers.
-/
module

public import proofs.«01_k».proof.Proof.RI.Entries
public import Idealize.ShloMosaic.Lib.Pipeline.ValueKit.Geometry

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.ShloMosaic.Pipeline (Dat Cfg Window cellOf)
open Cert.Proof.Own

theorem zero3 : (![0, 0, 0] : Fin 3 → Nat) = fun _ => 0 := by funext a; fin_cases a <;> rfl
theorem zero2 : (![0, 0] : Fin 2 → Nat) = fun _ => 0 := by funext a; fin_cases a <;> rfl

/-- The logit gradient's codes as the body leaves them. -/
theorem out3 (x0 : Vec Ideal S2x1280x151936 .fp8e5m2) (x1 : Vec Ideal S2x1280x896 .fp8e4m3) (x2 : Vec Ideal S151936x896 .i8) :
    out0_3 (F := Ideal) x0 x1 x2 = k0_pay1 x0 := by
  unfold out0_3
  exact (View.canon_unit_zero zero3 _ _).trans (congrArg k0_pay1 (View.ld_unit_zero zero3 _ x0))
/-- The hidden states' codes. -/
theorem out4 (x0 : Vec Ideal S2x1280x151936 .fp8e5m2) (x1 : Vec Ideal S2x1280x896 .fp8e4m3) (x2 : Vec Ideal S151936x896 .i8) :
    out0_4 (F := Ideal) x0 x1 x2 = k0_pay2 x1 := by
  unfold out0_4
  exact (View.canon_unit_zero zero3 _ _).trans (congrArg k0_pay2 (View.ld_unit_zero zero3 _ x1))
/-- The embedding's codes. -/
theorem out5 (x0 : Vec Ideal S2x1280x151936 .fp8e5m2) (x1 : Vec Ideal S2x1280x896 .fp8e4m3) (x2 : Vec Ideal S151936x896 .i8) :
    out0_5 (F := Ideal) x0 x1 x2 = k0_pay3 x2 := by
  unfold out0_5
  exact (View.canon_unit_zero zero2 _ _).trans (congrArg k0_pay3 (View.ld_unit_zero zero2 _ x2))

variable (m : (ℓ : Loc nD τ sig) → Buf (Elt Ideal) ℓ)

/-- The decoded codes of the logit gradient at the region's end. -/
theorem arr3 (c : Dev nD) : (dats (F := Ideal) m 0 c).arrAt 3 cfg0.N = k0_pay1 (F := Ideal) (m ((c.tc : Thread nD τ).loc main_arg0)) := by
  refine (dats m 0 c).arrAt_eq_of_covers 3 _ (by decide +kernel) fun t _ y => ?_
  rw [after0_3, out3]
  rfl
/-- Those of the hidden states. -/
theorem arr4 (c : Dev nD) : (dats (F := Ideal) m 0 c).arrAt 4 cfg0.N = k0_pay2 (F := Ideal) (m ((c.tc : Thread nD τ).loc main_arg2)) := by
  refine (dats m 0 c).arrAt_eq_of_covers 4 _ (by decide +kernel) fun t _ y => ?_
  rw [after0_4, out4]
  rfl
/-- Those of the embedding. -/
theorem arr5 (c : Dev nD) : (dats (F := Ideal) m 0 c).arrAt 5 cfg0.N = k0_pay3 (F := Ideal) (m ((c.tc : Thread nD τ).loc main_arg4)) := by
  refine (dats m 0 c).arrAt_eq_of_covers 5 _ (by decide +kernel) fun t _ y => ?_
  rw [after0_5, out5]
  rfl

end Cert.Proof.RI

end
-- ==== Proof.RI.Value.lean ====
/-
  The reference's two results over its arguments, at the end of every run.
-/
module

public import proofs.«01_k».proof.Proof.RI.Host
public import proofs.«01_k».proof.Proof.RI.Decode

@[expose] public section

set_option maxRecDepth 16384

noncomputable section

namespace Cert.Proof.RI

open Cert.ReferenceIdeal Cert.ReferenceIdeal.Gen
open Idealize.ShloMosaic
open Idealize.ShloMosaic.TcCoe Idealize.ShloMosaic.Tactic
open Idealize.ShloMosaic.Pipeline (Dat Cfg Window cellOf)
open Idealize.SL.Sem
open Cert.Proof.Own

variable (m : (ℓ : Loc nD τ sig) → Buf (Elt Ideal) ℓ) (ρ : Dev nD → PrngReg)

/-- The reference's arguments. -/
def args (c : Dev nD) : Args where
  g := m ((c.tc : Thread nD τ).loc main_arg0)
  gs := m ((c.tc : Thread nD τ).loc main_arg1)
  h := m ((c.tc : Thread nD τ).loc main_arg2)
  hs := m ((c.tc : Thread nD τ).loc main_arg3)
  e := m ((c.tc : Thread nD τ).loc main_arg4)
  es := m ((c.tc : Thread nD τ).loc main_arg5)
  ids := m ((c.tc : Thread nD τ).loc main_arg6)
  r := m ((c.tc : Thread nD τ).loc main_arg7)

/-- The first result. -/
def res0 (c : Dev nD) : Vec Ideal S151936x896 .f32 := fun j => (args m c).dE (j 0) (j 1)
/-- The second result. -/
def res1 (c : Dev nD) : Vec Ideal S2x1280x896 .bf16 := fun j => (args m c).dH (j 0) (j 1) (j 2)

/-- The region's arrays are different buffers. -/
theorem arrs_inj : Function.Injective (Pipeline.arrRef spec0) := by decide

/-- What the host lines after the region start from. -/
def W0 (c : Dev nD) : Valuation τ sig (Elt Ideal) :=
  Pipeline.withArrays spec0 c (V0 m c) (fun w => (dats (F := Ideal) m 0 c).arrAt w cfg0.N)

theorem W0_3 (c : Dev nD) : W0 m c (Proc.devRef .tc main_v0_0) = k0_pay1 (F := Ideal) (args m c).g :=
  (Pipeline.withArrays_arr spec0 arrs_inj c (V0 m c) (fun w => (dats (F := Ideal) m 0 c).arrAt w cfg0.N) 3).trans (arr3 m c)
theorem W0_4 (c : Dev nD) : W0 m c (Proc.devRef .tc main_v0_1) = k0_pay2 (F := Ideal) (args m c).h :=
  (Pipeline.withArrays_arr spec0 arrs_inj c (V0 m c) (fun w => (dats (F := Ideal) m 0 c).arrAt w cfg0.N) 4).trans (arr4 m c)
theorem W0_5 (c : Dev nD) : W0 m c (Proc.devRef .tc main_v0_2) = k0_pay3 (F := Ideal) (args m c).e :=
  (Pipeline.withArrays_arr spec0 arrs_inj c (V0 m c) (fun w => (dats (F := Ideal) m 0 c).arrAt w cfg0.N) 5).trans (arr5 m c)
theorem W0_gs (c : Dev nD) : W0 m c (Proc.devRef .tc main_arg1) = (args m c).gs :=
  Pipeline.withArrays_of_ne spec0 c (V0 m c) _ main_arg1 (by exact (by decide : ∀ w, Pipeline.arrRef spec0 w ≠ main_arg1))
theorem W0_hs (c : Dev nD) : W0 m c (Proc.devRef .tc main_arg3) = (args m c).hs :=
  Pipeline.withArrays_of_ne spec0 c (V0 m c) _ main_arg3 (by exact (by decide : ∀ w, Pipeline.arrRef spec0 w ≠ main_arg3))
theorem W0_es (c : Dev nD) : W0 m c (Proc.devRef .tc main_arg5) = (args m c).es :=
  Pipeline.withArrays_of_ne spec0 c (V0 m c) _ main_arg5 (by exact (by decide : ∀ w, Pipeline.arrRef spec0 w ≠ main_arg5))
theorem W0_ids (c : Dev nD) : W0 m c (Proc.devRef .tc main_arg6) = (args m c).ids :=
  Pipeline.withArrays_of_ne spec0 c (V0 m c) _ main_arg6 (by exact (by decide : ∀ w, Pipeline.arrRef spec0 w ≠ main_arg6))
theorem W0_r (c : Dev nD) : W0 m c (Proc.devRef .tc main_arg7) = (args m c).r :=
  Pipeline.withArrays_of_ne spec0 c (V0 m c) _ main_arg7 (by exact (by decide : ∀ w, Pipeline.arrRef spec0 w ≠ main_arg7))

/-- The host lines' first result. -/
theorem host0 (c : Dev nD) (hv : ∀ j, BitVec.toNat ((args m c).ids j : BitVec 32) < 151936) :
    StableHlo.after hostOps1 (W0 m c) (Proc.devRef .tc main_v21) = res0 m c := by
  rw [res21, W0_3, W0_4, W0_gs, W0_hs, W0_ids, W0_r]
  funext j
  rw [ix_eq j (j 0) (j 1) rfl rfl]
  exact dE_at (args m c) hv (j 0) (j 1) _ _ (fun _ => rfl) (fun _ => rfl)

/-- Their second. -/
theorem host1 (c : Dev nD) : StableHlo.after hostOps1 (W0 m c) (Proc.devRef .tc main_v27) = res1 m c := by
  rw [res27, W0_3, W0_5, W0_gs, W0_es]
  funext j
  rw [ix3_eq j (j 0) (j 1) (j 2) rfl rfl rfl]
  exact dH_at (args m c) (j 0) (j 1) (j 2) _ _ (fun _ => rfl) (fun _ => rfl)

/-- Every run ends with the two results in place. -/
theorem value (hv : ∀ c : Dev nD, ∀ j, BitVec.toNat ((args m c).ids j : BitVec 32) < 151936) :
    θ_run (defs (F := Ideal)) (onTc (τ := τ) (main (F := Ideal))) ⟨m, fun _ => 0, ρ⟩ (fun r => ∀ c : Dev nD,
      r.2.mem ((c.tc : Thread nD τ).loc main_v21) = res0 m c ∧ r.2.mem ((c.tc : Thread nD τ).loc main_v27) = res1 m c) := by
  refine (θ_run defs _ _).mono (fun r h c => ?_) (run_main (F := Ideal) m ρ)
  refine ⟨((h c).2 main_v21 (Pipeline.mem_restRefs_of main_v21 (by decide) (by decide))).trans ?_,
    ((h c).2 main_v27 (Pipeline.mem_restRefs_of main_v27 (by decide) (by decide))).trans ?_⟩
  · unfold Pipeline.afterTail₀
    exact host0 m c (hv c)
  · unfold Pipeline.afterTail₀
    exact host1 m c

end Cert.Proof.RI

end
-- ==== Proof.lean ====
/-
  The certificate: the claims of Defs.lean from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_ids_in_vocab
public import proofs.«01_k».proof.Proof.Ids
public import proofs.«01_k».proof.Proof.P.Frame
public import proofs.«01_k».proof.Proof.PI.Frame
public import proofs.«01_k».proof.Proof.PI.Args
public import proofs.«01_k».proof.Proof.RI.Value

@[expose] public section

noncomputable section

namespace Cert.Proof

open Idealize.ShloMosaic Idealize.SL.Sem

/-- On agreeing memories the reference's arguments are the kernel's. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : (RI.args m' c).g = (PI.args m c).g) (h1 : (RI.args m' c).gs = (PI.args m c).gs) (h2 : (RI.args m' c).h = (PI.args m c).h)
    (h3 : (RI.args m' c).hs = (PI.args m c).hs) (h4 : (RI.args m' c).e = (PI.args m c).e) (h5 : (RI.args m' c).es = (PI.args m c).es)
    (h6 : (RI.args m' c).ids = (PI.args m c).ids) (h7 : (RI.args m' c).r = (PI.args m c).r) : RI.args m' c = PI.args m c := by
  cases hx : RI.args m' c
  cases hy : PI.args m c
  rw [hx, hy] at h0 h1 h2 h3 h4 h5 h6 h7
  congr

/-- The kernel's two results are the reference's. -/
theorem algebraic [Cert.Pre_ids_in_vocab.Facts] : Cert.algebraic_KernelIdeal_ReferenceIdeal
    (hKernelIdeal := Cert.KernelIdeal.Gen.facts) (hReferenceIdeal := Cert.ReferenceIdeal.Gen.facts) := by
  intro m g m' g' hpre hagree
  have hv : ∀ c : Dev Cert.KernelIdeal.nD, ∀ j, BitVec.toNat ((PI.args m c).ids j : BitVec 32) < 151936 := fun c => ids_in_vocab (hpre c)
  have ha : ∀ c : Dev Cert.KernelIdeal.nD, RI.args m' c = PI.args m c := fun c => by
    obtain ⟨h0, h1, h2, h3, h4, h5, h6, h7⟩ := hagree c
    exact args_agree m m' c h0 h1 h2 h3 h4 h5 h6 h7
  refine ⟨PI.outE m, PI.outR m,
    (θ_run _ _ _).mono (fun r h c => ⟨(h.1 c).1, (h.1 c).2, h.2.1 c⟩) (θ_run_and (PI.value m g hv) (PI.frame m g hv)),
    (θ_run _ _ _).mono (fun r h c => ⟨(h.1 c).1.trans ?_, (h.1 c).2.trans ?_, h.2 c⟩)
      (θ_run_and (RI.value m' g' fun c => by rw [ha c]; exact hv c) (Cert.ReferenceIdeal.Gen.unchanged m' g'))⟩
  · funext j
    refine Eq.trans ?_ (PI.outE_apply m c j).symm
    show (RI.args m' c).dE (j 0) (j 1) = _
    rw [ha c]
  · funext j
    refine Eq.trans ?_ (PI.outR_apply m c j).symm
    show (RI.args m' c).dH (j 0) (j 1) (j 2) = _
    rw [ha c]

theorem claim : Cert.Claim := ⟨Cert.Kernel.Gen.facts, Cert.KernelIdeal.Gen.facts, Cert.ReferenceIdeal.Gen.facts, Cert.Pre_ids_in_vocab.Gen.facts,
  fun m g h => P.frame m g fun c => ids_in_vocab (h c),
  fun m g h => PI.frame m g fun c => ids_in_vocab (h c),
  fun m g _ => Cert.ReferenceIdeal.Gen.frame m g,
  fun m g _ => Cert.ReferenceIdeal.Gen.frame m g,
  trivial,
  @algebraic Cert.Pre_ids_in_vocab.Gen.facts⟩

end Cert.Proof

end
